-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_segments [hPre_segments : Cert.Pre_segments.Facts] (m : (ℓ : Loc Cert.KernelIdeal.nD Cert.KernelIdeal.τ Cert.KernelIdeal.sig) → Buf (Elt Ideal) ℓ) : Prop :=
  ∀ c : Dev Cert.KernelIdeal.nD,
    (Cert.Pre_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segments [hPre_segments : Cert.Pre_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_segments [hKernelIdeal : Cert.KernelIdeal.Facts] [hPre_segments : Cert.Pre_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_segments m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_segments [hReferenceIdeal : Cert.ReferenceIdeal.Facts] [hPre_segments : Cert.Pre_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log_eps" .f32 0xC15D0C55#32 ((Real.log (8796093 / 8796093022208) : ℝ) : EReal)
  ∧ IdealRules.named_const.Statement Cert.KernelIdeal.κ "half_log_two_pi" .f32 0x3F6B3F8E#32 (((1 / 2) * (Real.log (13176795 / 2097152)) : ℝ) : EReal)

def algebraic_KernelIdeal_ReferenceIdeal_pre_segments [hKernelIdeal : Cert.KernelIdeal.Facts] [hReferenceIdeal : Cert.ReferenceIdeal.Facts] [hPre_segments : Cert.Pre_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_segments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v12) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_v118) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_segments : Cert.Pre_segments.Facts),
    quiescent_Kernel (hKernel := hKernel)
    ∧ quiescent_KernelIdeal (hKernelIdeal := hKernelIdeal)
    ∧ quiescent_KernelIdeal_pre_segments (hKernelIdeal := hKernelIdeal) (hPre_segments := hPre_segments)
    ∧ quiescent_ReferenceIdeal (hReferenceIdeal := hReferenceIdeal)
    ∧ quiescent_ReferenceIdeal_pre_segments (hReferenceIdeal := hReferenceIdeal) (hPre_segments := hPre_segments)
    ∧ preserves_Kernel_KernelIdeal
    ∧ algebraic_KernelIdeal_ReferenceIdeal_pre_segments (hKernelIdeal := hKernelIdeal) (hReferenceIdeal := hReferenceIdeal) (hPre_segments := hPre_segments)
-- ==== Pre_segments.lean ====
abbrev S1600000 : Shape := ⟨1, ![1600000]⟩
abbrev S100001 : Shape := ⟨1, ![100001]⟩
abbrev S100000x10 : Shape := ⟨2, ![100000, 10]⟩
abbrev S1x1 : Shape := ⟨2, ![1, 1]⟩
abbrev S1 : Shape := ⟨1, ![1]⟩
abbrev S1x3 : Shape := ⟨2, ![1, 3]⟩
abbrev S100000 : Shape := ⟨1, ![100000]⟩
abbrev S_ : Shape := ⟨0, ![]⟩
abbrev S100000x1 : Shape := ⟨2, ![100000, 1]⟩
abbrev S1600000x1 : Shape := ⟨2, ![1600000, 1]⟩

class Facts : Prop where
  slices_S100001_S100000_0 : S100001.Slices ![0] S100000
  bcast_S_S1600000 : S_.BroadcastsInDim S1600000 (![] : Fin 0 → Fin S1600000.rank)
  reducesTo_S1600000_S_d0 : S1600000.ReducesTo [0] S_
  h_S_ : 0 < S_.numel
  bcast_S_S100000 : S_.BroadcastsInDim S100000 (![] : Fin 0 → Fin S100000.rank)
  reducesTo_S100000_S_d0 : S100000.ReducesTo [0] S_
  bcast_S100000_S100000x1_0 : S100000.BroadcastsInDim S100000x1 (![0] : Fin 1 → Fin S100000x1.rank)
  bcast_S1600000_S1600000x1_0 : S1600000.BroadcastsInDim S1600000x1 (![0] : Fin 1 → Fin S1600000x1.rank)
  gather_S1600000_S100000x1_S100000_n_0_n_n_0_1_1_wf : GatherDims.WF S1600000 S100000x1 S100000 [] [0] [] [0] [] 1 ![1]
  gather_S100000_S1600000x1_S1600000_n_0_n_n_0_1_1_wf : GatherDims.WF S100000 S1600000x1 S1600000 [] [0] [] [0] [] 1 ![1]

variable [Facts]

def gather_S1600000_S100000x1_S100000_n_0_n_n_0_1_1 : GatherDims S1600000 S100000x1 S100000 where
  offsetDims := []
  collapsedSliceDims := [0]
  operandBatchingDims := []
  startIndicesBatchingDims := []
  startIndexMap := [0]
  indexVectorDim := 1
  sliceSizes := ![1]
  wf := gather_S1600000_S100000x1_S100000_n_0_n_n_0_1_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def fn_part1 {F : FTy → Type} [FloatOps F] (main_arg1 : IVec S1600000 32) (main_v0 : IVec S100000 32) (main_v13 : IVec S_ 1) (main_v15 : IVec S100000 1) (main_c_6 : IVec S_ 32) : IVec S_ 1 :=
  let main_v16 : IVec S100000 32 := broadcastInDim S100000 ![] bcast_S_S100000 main_c_6
  let main_v17 : IVec S100000 32 := addi main_v0 main_v16
  let main_v18 : IVec S100000 32 := select main_v15 main_v17 main_v0
  let main_v19 : IVec S100000x1 32 := broadcastInDim S100000x1 ![0] bcast_S100000_S100000x1_0 main_v18
  let main_v20 : IVec S100000 32 := (fun x i => Host.gather gather_S1600000_S100000x1_S100000_n_0_n_n_0_1_1 x i) main_arg1 main_v19
  let main_v21 : IVec S100000 32 := iotaInDim S100000 32 0
  let main_v22 : IVec S100000 1 := cmpi .eq main_v20 main_v21
  let main_c_7 : IVec S_ 1 := constantI S_ 1 1#1
  let main_v23 : IVec S_ 1 := (fun x v => Host.reduce IntOp.andi x v reducesTo_S100000_S_d0 h_S_) main_v22 main_c_7
  let main_c_8 : IVec S_ 32 := constantI S_ 32 0#32
  let main_v24 : IVec S1600000 32 := broadcastInDim S1600000 ![] bcast_S_S1600000 main_c_8
  let main_v25 : IVec S1600000 1 := cmpi .slt main_arg1 main_v24
  let main_c_9 : IVec S_ 32 := constantI S_ 32 100000#32
  let main_v26 : IVec S1600000 32 := broadcastInDim S1600000 ![] bcast_S_S1600000 main_c_9
  let main_v27 : IVec S1600000 32 := addi main_arg1 main_v26
  let main_v28 : IVec S1600000 32 := select main_v25 main_v27 main_arg1
  let main_v29 : IVec S1600000x1 32 := broadcastInDim S1600000x1 ![0] bcast_S1600000_S1600000x1_0 main_v28
  let main_v30 : IVec S1600000 32 := (fun x i => Host.gather gather_S100000_S1600000x1_S1600000_n_0_n_n_0_1_1 x i) main_v0 main_v29
  let main_v31 : IVec S1600000 32 := iotaInDim S1600000 32 0
  let main_v32 : IVec S1600000 1 := cmpi .sle main_v30 main_v31
  let main_c_10 : IVec S_ 1 := constantI S_ 1 1#1
  let main_v33 : IVec S_ 1 := (fun x v => Host.reduce IntOp.andi x v reducesTo_S1600000_S_d0 h_S_) main_v32 main_c_10
  let main_v34 : IVec S_ 1 := andi main_v13 main_v23
  let main_v35 : IVec S_ 1 := andi main_v34 main_v33
  main_v35

def fn {F : FTy → Type} [FloatOps F] (main_arg0 : IVec S1600000 32) (main_arg1 : IVec S1600000 32) (main_arg2 : IVec S100001 32) (main_arg3 : IVec S100000x10 32) (main_arg4 : FVec F S1x1 .f32) (main_arg5 : FVec F S1 .f32) (main_arg6 : FVec F S1x3 .f32) : IVec S_ 1 :=
  let main_v0 : IVec S100000 32 := (extractStridedSlice S100000 ![0] · slices_S100001_S100000_0) main_arg2
  let main_c : IVec S_ 32 := constantI S_ 32 0#32
  let main_v1 : IVec S1600000 32 := broadcastInDim S1600000 ![] bcast_S_S1600000 main_c
  let main_v2 : IVec S1600000 1 := cmpi .sge main_arg1 main_v1
  let main_c_0 : IVec S_ 32 := constantI S_ 32 100000#32
  let main_v3 : IVec S1600000 32 := broadcastInDim S1600000 ![] bcast_S_S1600000 main_c_0
  let main_v4 : IVec S1600000 1 := cmpi .slt main_arg1 main_v3
  let main_v5 : IVec S1600000 1 := andi main_v2 main_v4
  let main_c_1 : IVec S_ 1 := constantI S_ 1 1#1
  let main_v6 : IVec S_ 1 := (fun x v => Host.reduce IntOp.andi x v reducesTo_S1600000_S_d0 h_S_) main_v5 main_c_1
  let main_c_2 : IVec S_ 32 := constantI S_ 32 0#32
  let main_v7 : IVec S100000 32 := broadcastInDim S100000 ![] bcast_S_S100000 main_c_2
  let main_v8 : IVec S100000 1 := cmpi .sge main_v0 main_v7
  let main_c_3 : IVec S_ 32 := constantI S_ 32 1600000#32
  let main_v9 : IVec S100000 32 := broadcastInDim S100000 ![] bcast_S_S100000 main_c_3
  let main_v10 : IVec S100000 1 := cmpi .slt main_v0 main_v9
  let main_v11 : IVec S100000 1 := andi main_v8 main_v10
  let main_c_4 : IVec S_ 1 := constantI S_ 1 1#1
  let main_v12 : IVec S_ 1 := (fun x v => Host.reduce IntOp.andi x v reducesTo_S100000_S_d0 h_S_) main_v11 main_c_4
  let main_v13 : IVec S_ 1 := andi main_v6 main_v12
  let main_c_5 : IVec S_ 32 := constantI S_ 32 0#32
  let main_v14 : IVec S100000 32 := broadcastInDim S100000 ![] bcast_S_S100000 main_c_5
  let main_v15 : IVec S100000 1 := cmpi .slt main_v0 main_v14
  let main_c_6 : IVec S_ 32 := constantI S_ 32 1600000#32
  fn_part1 (F := F) main_arg1 main_v0 main_v13 main_v15 main_c_6
-- ==== Kernel.lean ====
abbrev S1600000 : Shape := ⟨1, ![1600000]⟩
abbrev S100001 : Shape := ⟨1, ![100001]⟩
abbrev S100000x10 : Shape := ⟨2, ![100000, 10]⟩
abbrev S1x1 : Shape := ⟨2, ![1, 1]⟩
abbrev S1 : Shape := ⟨1, ![1]⟩
abbrev S1x3 : Shape := ⟨2, ![1, 3]⟩
abbrev S1000000 : Shape := ⟨1, ![1000000]⟩
abbrev S16 : Shape := ⟨1, ![16]⟩
abbrev S3 : Shape := ⟨1, ![3]⟩
abbrev S16x3 : Shape := ⟨2, ![16, 3]⟩
abbrev S48 : Shape := ⟨1, ![48]⟩
abbrev S80 : Shape := ⟨1, ![80]⟩
abbrev S100000 : Shape := ⟨1, ![100000]⟩
abbrev S300000 : Shape := ⟨1, ![300000]⟩
abbrev S31360 : Shape := ⟨1, ![31360]⟩
abbrev S3136 : Shape := ⟨1, ![3136]⟩
abbrev S9408 : Shape := ⟨1, ![9408]⟩
abbrev S_ : Shape := ⟨0, ![]⟩
abbrev S100000x1 : Shape := ⟨2, ![100000, 1]⟩
abbrev S100000x3 : Shape := ⟨2, ![100000, 3]⟩

abbrev nBuf : Table → Nat
  | .hbm => 24
  | .local .scVector .vmem => 7
  | _ => 0

abbrev bufTy : (tb : Table) → Fin (nBuf tb) → BufTy
  | .hbm, ⟨0, _⟩ => ⟨S1600000, .i32⟩
  | .hbm, ⟨1, _⟩ => ⟨S1600000, .i32⟩
  | .hbm, ⟨2, _⟩ => ⟨S100001, .i32⟩
  | .hbm, ⟨3, _⟩ => ⟨S100000x10, .i32⟩
  | .hbm, ⟨4, _⟩ => ⟨S1x1, .f32⟩
  | .hbm, ⟨5, _⟩ => ⟨S1, .f32⟩
  | .hbm, ⟨6, _⟩ => ⟨S1x3, .f32⟩
  | .hbm, ⟨7, _⟩ => ⟨S1000000, .i32⟩
  | .hbm, ⟨8, _⟩ => ⟨S1, .f32⟩
  | .hbm, ⟨9, _⟩ => ⟨S16, .f32⟩
  | .hbm, ⟨10, _⟩ => ⟨S16, .f32⟩
  | .hbm, ⟨11, _⟩ => ⟨S3, .f32⟩
  | .hbm, ⟨12, _⟩ => ⟨S1x3, .f32⟩
  | .hbm, ⟨13, _⟩ => ⟨S16x3, .f32⟩
  | .hbm, ⟨14, _⟩ => ⟨S48, .f32⟩
  | .hbm, ⟨15, _⟩ => ⟨S80, .f32⟩
  | .hbm, ⟨16, _⟩ => ⟨S100000, .i32⟩
  | .hbm, ⟨17, _⟩ => ⟨S100000, .i32⟩
  | .hbm, ⟨18, _⟩ => ⟨S100000, .f32⟩
  | .hbm, ⟨19, _⟩ => ⟨S300000, .f32⟩
  | .hbm, ⟨20, _⟩ => ⟨S100000, .f32⟩
  | .hbm, ⟨21, _⟩ => ⟨S100000x1, .f32⟩
  | .hbm, ⟨22, _⟩ => ⟨S100000x3, .f32⟩
  | .hbm, ⟨23, _⟩ => ⟨S100000x1, .f32⟩
  | .local .scVector .vmem, ⟨0, _⟩ => ⟨S31360, .i32⟩
  | .local .scVector .vmem, ⟨1, _⟩ => ⟨S3136, .i32⟩
  | .local .scVector .vmem, ⟨2, _⟩ => ⟨S3136, .i32⟩
  | .local .scVector .vmem, ⟨3, _⟩ => ⟨S3136, .f32⟩
  | .local .scVector .vmem, ⟨4, _⟩ => ⟨S9408, .f32⟩
  | .local .scVector .vmem, ⟨5, _⟩ => ⟨S3136, .f32⟩
  | .local .scVector .vmem, ⟨6, _⟩ => ⟨S80, .f32⟩
  | _, _ => ⟨S1600000, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v8_scv : Ref sig .scVector := ⟨.hbm, 15, rfl⟩
abbrev main_v0_scv : Ref sig .scVector := ⟨.hbm, 7, rfl⟩
abbrev main_v9_0_scv : Ref sig .scVector := ⟨.hbm, 16, rfl⟩
abbrev main_v9_1_scv : Ref sig .scVector := ⟨.hbm, 17, rfl⟩
abbrev main_v9_2_scv : Ref sig .scVector := ⟨.hbm, 18, rfl⟩
abbrev main_v9_3_scv : Ref sig .scVector := ⟨.hbm, 19, rfl⟩
abbrev main_v9_4_scv : Ref sig .scVector := ⟨.hbm, 20, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v2 : BitVec 32 := Scalar.muli v1 c3136_i32
  let c96864_i32 : BitVec 32 := 96864#32
  let v3 : BitVec 32 := Scalar.minsi v2 c96864_i32
  v3
def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v2 : BitVec 32 := Scalar.muli v1 c3136_i32
  let c96864_i32 : BitVec 32 := 96864#32
  let v3 : BitVec 32 := Scalar.minsi v2 c96864_i32
  let v4 : BitVec 32 := v3
  let c10_i32 : BitVec 32 := 10#32
  let v5 : BitVec 32 := Scalar.muli v4 c10_i32
  ![v5.toNat]
@[reducible] def k0_t1_loop : Scf.Loop 32 :=
  let c0_i32_8 : BitVec 32 := 0#32
  let c196_i32 : BitVec 32 := 196#32
  let v32 : BitVec 32 := Scalar.addi c0_i32_8 c196_i32
  let c1_i32 : BitVec 32 := 1#32
  ⟨c0_i32_8, v32, c1_i32⟩

def k0_chk1 (v40 : IVec S16 32) : Prop :=
  (∀ a x, ((![v40] : Fin 1 → IVec S16 32) a x).toNat < S31360.size a)
theorem k0_idx1_inb : ∀ (v40 : IVec S16 32) (k0_hw1 : k0_chk1 v40), ∀ a x, ((![v40] : Fin 1 → IVec S16 32) a x).toNat < S31360.size a := fun v40 k0_hw1 => k0_hw1

def k0_chk2 (v47 : IVec S16 32) : Prop :=
  (∀ a x, ((![v47] : Fin 1 → IVec S16 32) a x).toNat < S31360.size a)
theorem k0_idx2_inb : ∀ (v47 : IVec S16 32) (k0_hw2 : k0_chk2 v47), ∀ a x, ((![v47] : Fin 1 → IVec S16 32) a x).toNat < S31360.size a := fun v47 k0_hw2 => k0_hw2

def k0_chk3 (v54 : IVec S16 32) : Prop :=
  (∀ a x, ((![v54] : Fin 1 → IVec S16 32) a x).toNat < S31360.size a)
theorem k0_idx3_inb : ∀ (v54 : IVec S16 32) (k0_hw3 : k0_chk3 v54), ∀ a x, ((![v54] : Fin 1 → IVec S16 32) a x).toNat < S31360.size a := fun v54 k0_hw3 => k0_hw3

def k0_chk4 (v61 : IVec S16 32) : Prop :=
  (∀ a x, ((![v61] : Fin 1 → IVec S16 32) a x).toNat < S31360.size a)
theorem k0_idx4_inb : ∀ (v61 : IVec S16 32) (k0_hw4 : k0_chk4 v61), ∀ a x, ((![v61] : Fin 1 → IVec S16 32) a x).toNat < S31360.size a := fun v61 k0_hw4 => k0_hw4

def k0_chk5 (v68 : IVec S16 32) : Prop :=
  (∀ a x, ((![v68] : Fin 1 → IVec S16 32) a x).toNat < S31360.size a)
theorem k0_idx5_inb : ∀ (v68 : IVec S16 32) (k0_hw5 : k0_chk5 v68), ∀ a x, ((![v68] : Fin 1 → IVec S16 32) a x).toNat < S31360.size a := fun v68 k0_hw5 => k0_hw5

def k0_chk6 (v75 : IVec S16 32) : Prop :=
  (∀ a x, ((![v75] : Fin 1 → IVec S16 32) a x).toNat < S31360.size a)
theorem k0_idx6_inb : ∀ (v75 : IVec S16 32) (k0_hw6 : k0_chk6 v75), ∀ a x, ((![v75] : Fin 1 → IVec S16 32) a x).toNat < S31360.size a := fun v75 k0_hw6 => k0_hw6

def k0_chk7 (v82 : IVec S16 32) : Prop :=
  (∀ a x, ((![v82] : Fin 1 → IVec S16 32) a x).toNat < S31360.size a)
theorem k0_idx7_inb : ∀ (v82 : IVec S16 32) (k0_hw7 : k0_chk7 v82), ∀ a x, ((![v82] : Fin 1 → IVec S16 32) a x).toNat < S31360.size a := fun v82 k0_hw7 => k0_hw7

def k0_chk8 (v89 : IVec S16 32) : Prop :=
  (∀ a x, ((![v89] : Fin 1 → IVec S16 32) a x).toNat < S31360.size a)
theorem k0_idx8_inb : ∀ (v89 : IVec S16 32) (k0_hw8 : k0_chk8 v89), ∀ a x, ((![v89] : Fin 1 → IVec S16 32) a x).toNat < S31360.size a := fun v89 k0_hw8 => k0_hw8

def k0_chk9 (v96 : IVec S16 32) : Prop :=
  (∀ a x, ((![v96] : Fin 1 → IVec S16 32) a x).toNat < S31360.size a)
theorem k0_idx9_inb : ∀ (v96 : IVec S16 32) (k0_hw9 : k0_chk9 v96), ∀ a x, ((![v96] : Fin 1 → IVec S16 32) a x).toNat < S31360.size a := fun v96 k0_hw9 => k0_hw9

def k0_chk10 (v103 : IVec S16 32) : Prop :=
  (∀ a x, ((![v103] : Fin 1 → IVec S16 32) a x).toNat < S31360.size a)
theorem k0_idx10_inb : ∀ (v103 : IVec S16 32) (k0_hw10 : k0_chk10 v103), ∀ a x, ((![v103] : Fin 1 → IVec S16 32) a x).toNat < S31360.size a := fun v103 k0_hw10 => k0_hw10
def k0_off2 (k0_t1 : Fin k0_t1_loop.trips) : Fin 1 → Nat :=
  let c0_i32_8 : BitVec 32 := 0#32
  let c1_i32 : BitVec 32 := 1#32
  let arg16 : BitVec 32 := Scf.iv c0_i32_8 c1_i32 k0_t1
  let c16_i32 : BitVec 32 := 16#32
  let v34 : BitVec 32 := Scalar.muli arg16 c16_i32
  let v109 : Index := Scalar.indexCast v34
  ![v109.toNat]
def k0_off3 (k0_t1 : Fin k0_t1_loop.trips) : Fin 1 → Nat :=
  let c3_i32_35 : BitVec 32 := 3#32
  let c0_i32_8 : BitVec 32 := 0#32
  let c1_i32 : BitVec 32 := 1#32
  let arg16 : BitVec 32 := Scf.iv c0_i32_8 c1_i32 k0_t1
  let c16_i32 : BitVec 32 := 16#32
  let v34 : BitVec 32 := Scalar.muli arg16 c16_i32
  let v117 : BitVec 32 := Scalar.muli c3_i32_35 v34
  let v118 : Index := Scalar.indexCast v117
  ![v118.toNat]
def k0_off4 (k0_t1 : Fin k0_t1_loop.trips) (c16_i32_36 : BitVec 32) : Fin 1 → Nat :=
  let c3_i32_35 : BitVec 32 := 3#32
  let c0_i32_8 : BitVec 32 := 0#32
  let c1_i32 : BitVec 32 := 1#32
  let arg16 : BitVec 32 := Scf.iv c0_i32_8 c1_i32 k0_t1
  let c16_i32 : BitVec 32 := 16#32
  let v34 : BitVec 32 := Scalar.muli arg16 c16_i32
  let v117 : BitVec 32 := Scalar.muli c3_i32_35 v34
  let v120 : BitVec 32 := Scalar.addi v117 c16_i32_36
  let v121 : Index := Scalar.indexCast v120
  ![v121.toNat]
def k0_off5 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v2 : BitVec 32 := Scalar.muli v1 c3136_i32
  let c96864_i32 : BitVec 32 := 96864#32
  let v3 : BitVec 32 := Scalar.minsi v2 c96864_i32
  let v4 : BitVec 32 := v3
  ![v4.toNat]
def k0_off6 (i : grid0.Coords) : Fin 1 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v2 : BitVec 32 := Scalar.muli v1 c3136_i32
  let c96864_i32 : BitVec 32 := 96864#32
  let v3 : BitVec 32 := Scalar.minsi v2 c96864_i32
  let v4 : BitVec 32 := v3
  let v33 : BitVec 32 := Scalar.muli c3_i32 v4
  ![v33.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "half_log_two_pi" => some (((1 / 2) * (Real.log (13176795 / 2097152)) : ℝ) : EReal)
  | "log_eps" => some ((Real.log (8796093 / 8796093022208) : ℝ) : EReal)
  | _ => none
-- ==== ReferenceIdeal.lean ====
abbrev S1600000 : Shape := ⟨1, ![1600000]⟩
abbrev S100001 : Shape := ⟨1, ![100001]⟩
abbrev S100000x10 : Shape := ⟨2, ![100000, 10]⟩
abbrev S1x1 : Shape := ⟨2, ![1, 1]⟩
abbrev S1 : Shape := ⟨1, ![1]⟩
abbrev S1x3 : Shape := ⟨2, ![1, 3]⟩
abbrev S_ : Shape := ⟨0, ![]⟩
abbrev S100000 : Shape := ⟨1, ![100000]⟩
abbrev S100000x1 : Shape := ⟨2, ![100000, 1]⟩
abbrev S1x1600000 : Shape := ⟨2, ![1, 1600000]⟩
abbrev S100000x1600000 : Shape := ⟨2, ![100000, 1600000]⟩
abbrev S1600000x1 : Shape := ⟨2, ![1600000, 1]⟩
abbrev S1600000x10 : Shape := ⟨2, ![1600000, 10]⟩
abbrev S1x1x1x3 : Shape := ⟨4, ![1, 1, 1, 3]⟩
abbrev S100000x1x1x3 : Shape := ⟨4, ![100000, 1, 1, 3]⟩
abbrev S100000x3 : Shape := ⟨2, ![100000, 3]⟩
abbrev S100000x1x1 : Shape := ⟨3, ![100000, 1, 1]⟩

abbrev nBuf : Space → Nat
  | .hbm => 173
  | .vmem => 0
  | .smem => 0
  | _ => 0

abbrev hbmTy0_0 (i : Nat) : BufTy := match i % 128 with
  | 0 => ⟨S1600000, .i32⟩
  | 1 => ⟨S1600000, .i32⟩
  | 2 => ⟨S100001, .i32⟩
  | 3 => ⟨S100000x10, .i32⟩
  | 4 => ⟨S1x1, .f32⟩
  | 5 => ⟨S1, .f32⟩
  | 6 => ⟨S1x3, .f32⟩
  | 7 => ⟨S_, .f32⟩
  | 8 => ⟨S1600000, .f32⟩
  | 9 => ⟨S100000, .i32⟩
  | 10 => ⟨S100000x1, .i32⟩
  | 11 => ⟨S1x1600000, .i32⟩
  | 12 => ⟨S100000x1600000, .i32⟩
  | 13 => ⟨S100000x1600000, .i32⟩
  | 14 => ⟨S100000x1600000, .i1⟩
  | 15 => ⟨S1x1600000, .f32⟩
  | 16 => ⟨S_, .f32⟩
  | 17 => ⟨S_, .f32⟩
  | 18 => ⟨S100000x1600000, .f32⟩
  | 19 => ⟨S100000x1600000, .f32⟩
  | 20 => ⟨S100000x1600000, .f32⟩
  | 21 => ⟨S_, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S1600000, .f32⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S100000, .i32⟩
  | 49 => ⟨S100000x1, .i32⟩
  | 50 => ⟨S1x1600000, .i32⟩
  | 51 => ⟨S100000x1600000, .i32⟩
  | 52 => ⟨S100000x1600000, .i32⟩
  | 53 => ⟨S100000x1600000, .i1⟩
  | 54 => ⟨S1x1600000, .f32⟩
  | 55 => ⟨S_, .f32⟩
  | 56 => ⟨S_, .f32⟩
  | 57 => ⟨S100000x1600000, .f32⟩
  | 58 => ⟨S100000x1600000, .f32⟩
  | 59 => ⟨S100000x1600000, .f32⟩
  | 60 => ⟨S_, .f32⟩
  | 61 => ⟨S100000, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000, .f32⟩
  | 71 => ⟨S1600000, .i1⟩
  | 72 => ⟨S1600000, .i32⟩
  | 73 => ⟨S_, .i32⟩
  | 74 => ⟨S_, .i32⟩
  | 75 => ⟨S1600000, .i32⟩
  | 76 => ⟨S1600000, .i32⟩
  | 77 => ⟨S_, .i32⟩
  | 78 => ⟨S100000, .i32⟩
  | 79 => ⟨S1600000x1, .i32⟩
  | 80 => ⟨S100000, .i32⟩
  | 81 => ⟨S100000, .i32⟩
  | 82 => ⟨S100000, .i32⟩
  | 83 => ⟨S_, .f32⟩
  | 84 => ⟨S1600000x10, .f32⟩
  | 85 => ⟨S_, .i32⟩
  | 86 => ⟨S100000x10, .i32⟩
  | 87 => ⟨S100000x10, .i1⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x10, .i1⟩
  | 97 => ⟨S_, .f32⟩
  | 98 => ⟨S_, .f32⟩
  | 99 => ⟨S1600000x10, .f32⟩
  | 100 => ⟨S1600000x10, .f32⟩
  | 101 => ⟨S_, .f32⟩
  | 102 => ⟨S1600000, .f32⟩
  | 103 => ⟨S1600000x1, .f32⟩
  | 104 => ⟨S1600000x10, .f32⟩
  | 105 => ⟨S1600000x10, .f32⟩
  | 106 => ⟨S1600000x10, .f32⟩
  | 107 => ⟨S1600000x10, .f32⟩
  | 108 => ⟨S1600000x10, .f32⟩
  | 109 => ⟨S_, .f32⟩
  | 110 => ⟨S1600000, .f32⟩
  | 111 => ⟨S1600000x1, .f32⟩
  | 112 => ⟨S_, .f32⟩
  | 113 => ⟨S_, .f32⟩
  | 114 => ⟨S1600000x1, .f32⟩
  | 115 => ⟨S1600000x1, .f32⟩
  | 116 => ⟨S1600000x10, .f32⟩
  | 117 => ⟨S1600000x10, .f32⟩
  | 118 => ⟨S100000, .i32⟩
  | 119 => ⟨S100000, .i32⟩
  | 120 => ⟨S_, .i32⟩
  | 121 => ⟨S100000, .i32⟩
  | 122 => ⟨S100000, .i1⟩
  | 123 => ⟨S_, .i32⟩
  | 124 => ⟨S100000, .i32⟩
  | 125 => ⟨S100000, .i32⟩
  | 126 => ⟨S100000, .i32⟩
  | 127 => ⟨S100000x1, .i32⟩
  | _ => ⟨S1600000, .i32⟩

abbrev hbmTy0_1 (i : Nat) : BufTy := match i % 128 with
  | 0 => ⟨S100000x10, .f32⟩
  | 1 => ⟨S100000x10, .i32⟩
  | 2 => ⟨S_, .f32⟩
  | 3 => ⟨S_, .i32⟩
  | 4 => ⟨S100000, .f32⟩
  | 5 => ⟨S100000, .i32⟩
  | 6 => ⟨S100000x1, .f32⟩
  | 7 => ⟨S100000x1, .f32⟩
  | 8 => ⟨S_, .f32⟩
  | 9 => ⟨S100000x1, .f32⟩
  | 10 => ⟨S100000x1, .f32⟩
  | 11 => ⟨S_, .f32⟩
  | 12 => ⟨S100000x1, .f32⟩
  | 13 => ⟨S100000x1, .f32⟩
  | 14 => ⟨S1, .f32⟩
  | 15 => ⟨S_, .f32⟩
  | 16 => ⟨S1, .f32⟩
  | 17 => ⟨S1, .f32⟩
  | 18 => ⟨S1x1x1x3, .f32⟩
  | 19 => ⟨S100000x1x1x3, .f32⟩
  | 20 => ⟨S100000x3, .f32⟩
  | 21 => ⟨S100000x1, .f32⟩
  | 22 => ⟨S100000x1, .f32⟩
  | 23 => ⟨S100000x1, .f32⟩
  | 24 => ⟨S1, .f32⟩
  | 25 => ⟨S_, .f32⟩
  | 26 => ⟨S1, .f32⟩
  | 27 => ⟨S1, .f32⟩
  | 28 => ⟨S1x1, .f32⟩
  | 29 => ⟨S100000x1, .f32⟩
  | 30 => ⟨S100000x1, .f32⟩
  | 31 => ⟨S1, .f32⟩
  | 32 => ⟨S1x1, .f32⟩
  | 33 => ⟨S100000x1, .f32⟩
  | 34 => ⟨S100000x1, .f32⟩
  | 35 => ⟨S_, .f32⟩
  | 36 => ⟨S_, .f32⟩
  | 37 => ⟨S_, .f32⟩
  | 38 => ⟨S_, .f32⟩
  | 39 => ⟨S_, .f32⟩
  | 40 => ⟨S100000x1, .f32⟩
  | 41 => ⟨S100000x1, .f32⟩
  | 42 => ⟨S100000x1x1, .f32⟩
  | 43 => ⟨S_, .f32⟩
  | 44 => ⟨S100000x1, .f32⟩
  | _ => ⟨S1600000, .i32⟩

abbrev hbmTy (i : Nat) : BufTy := match i / 128 with
  | 0 => hbmTy0_0 i
  | 1 => hbmTy0_1 i
  | _ => ⟨S1600000, .i32⟩

abbrev bufTy : (tb : Table) → Fin (tcTables nBuf tb) → BufTy
  | .hbm, ⟨i, _⟩ => hbmTy i
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_c_8 : Ref sig .tc := ⟨.hbm, 62, rfl⟩
abbrev main_v39 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_call2_v0 : Ref sig .tc := ⟨.hbm, 74, rfl⟩
abbrev main_call2_v1 : Ref sig .tc := ⟨.hbm, 75, rfl⟩
abbrev main_v48 : Ref sig .tc := ⟨.hbm, 76, rfl⟩
abbrev main_c_11 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_12 : Ref sig .tc := ⟨.hbm, 83, rfl⟩
abbrev main_v54 : Ref sig .tc := ⟨.hbm, 84, rfl⟩
abbrev main_c_13 : Ref sig .tc := ⟨.hbm, 85, rfl⟩
abbrev main_v55 : Ref sig .tc := ⟨.hbm, 86, rfl⟩
abbrev main_v56 : Ref sig .tc := ⟨.hbm, 87, rfl⟩
abbrev main_c_14 : Ref sig .tc := ⟨.hbm, 88, rfl⟩
abbrev main_v57 : Ref sig .tc := ⟨.hbm, 89, rfl⟩
abbrev main_v58 : Ref sig .tc := ⟨.hbm, 90, rfl⟩
abbrev main_c_15 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_16 : Ref sig .tc := ⟨.hbm, 97, rfl⟩
abbrev main_call3_v0 : Ref sig .tc := ⟨.hbm, 98, rfl⟩
abbrev main_call3_v1 : Ref sig .tc := ⟨.hbm, 99, rfl⟩
abbrev main_v64 : Ref sig .tc := ⟨.hbm, 100, rfl⟩
abbrev main_cst_17 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_18 : Ref sig .tc := ⟨.hbm, 109, rfl⟩
abbrev main_v72 : Ref sig .tc := ⟨.hbm, 110, rfl⟩
abbrev main_v73 : Ref sig .tc := ⟨.hbm, 111, rfl⟩
abbrev main_cst_19 : Ref sig .tc := ⟨.hbm, 112, rfl⟩
abbrev main_call4_v0 : Ref sig .tc := ⟨.hbm, 113, rfl⟩
abbrev main_call4_v1 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_c_20 : Ref sig .tc := ⟨.hbm, 120, rfl⟩
abbrev main_v79 : Ref sig .tc := ⟨.hbm, 121, rfl⟩
abbrev main_v80 : Ref sig .tc := ⟨.hbm, 122, rfl⟩
abbrev main_c_21 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_call5_v0 : Ref sig .tc := ⟨.hbm, 129, rfl⟩
abbrev main_call5_cst : Ref sig .tc := ⟨.hbm, 130, rfl⟩
abbrev main_call5_c : Ref sig .tc := ⟨.hbm, 131, rfl⟩
abbrev main_call5_v1_0 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_22 : Ref sig .tc := ⟨.hbm, 136, rfl⟩
abbrev main_v89 : Ref sig .tc := ⟨.hbm, 137, rfl⟩
abbrev main_v90 : Ref sig .tc := ⟨.hbm, 138, rfl⟩
abbrev main_cst_23 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_cst_24 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_cst_25 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_26 : Ref sig .tc := ⟨.hbm, 163, rfl⟩
abbrev main_v112 : Ref sig .tc := ⟨.hbm, 164, rfl⟩
abbrev main_cst_27 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_cst_28 : Ref sig .tc := ⟨.hbm, 171, rfl⟩
abbrev main_v118 : Ref sig .tc := ⟨.hbm, 172, rfl⟩

abbrev nD : Nat := 1
abbrev τ : Topo := Topo.v7x

variable {F : FTy → Type} [FloatOps F]
-- ==== Proof.KernelIdealBase.lean ====
module
public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.WriteMode
public import Idealize.ShloMosaic.Lib.Tactic
public import proofs.«01_k».proof.Proof.Gen.KernelIdeal
public import proofs.«01_k».proof.Proof.Gen.KernelIdeal.Skeleton
@[expose] public section

/-! # The kernel's launch: the resource algebra, the arrays in write mode, and a copy into an array in write mode

Two of the 32 tasks write the same 352 rows at the end of every result, both with the same values. So during the launch
the five result arrays are in *write mode*: every task holds a share of the whole array together with the value each
element is to take, and may write any element with its value. -/

noncomputable section

namespace Cert.Proof.KernelIdealRun

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok shareTokN Flight)
open Idealize.ShloMosaic.Tactic

variable {F : FTy → Type}

/-! ## The program as the launch theorem sees it -/

abbrev ΛP : Labels := Pipeline.Sig Λ₀ (Fin 0) fun p => (pcfgs (F := F) p).Adm
abbrev K [FloatOps F] [Named F] : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct, unscoped, and no shared memory is a task's own. -/
theorem launch_facts [FloatOps F] [Named F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch's rounds, write mode, and the counters of the copies -/

abbrev UH : Type := URounds (GSem nD τ sig) ℕ
abbrev UU (F : FTy → Type) : Type := UH × (WmRA nD τ sig (Elt F) × Counters)

local notation "𝕄" => MT nD τ sig (HIx 1) (Elt F) ℕ (UU F) ℕ

abbrev EH : Emb UH 𝕄 := embL
abbrev EC : UEmb Counters 𝕄 := countersEmb
/-- Where write mode sits in the algebra. -/
abbrev wmE : UEmb (WmRA nD τ sig (Elt F)) (UU F) :=
  (UEmb.inl : UEmb (WmRA nD τ sig (Elt F)) (WmRA nD τ sig (Elt F) × Counters)).trans UEmb.inr

/-- The write-mode invariant at some name. -/
def wm : sProp 𝕄 := iprop(∃ ι : ℕ, wmInv (Ix := HIx 1) (Lvl := ℕ) (wmE (F := F)) ι)

instance wm_persistent : BI.Persistent (wm (F := F)) := by unfold wm; infer_instance

/-- All of an array in write mode at share `q`: the elements have values `f` before and are to take `g`; those in `W` are
    known written. -/
abbrev wb (ℓ : Loc nD τ sig) (q : PosShare TreeShare) (f g : Buf (Elt F) ℓ) (W : Finset (Idx ℓ)) : sProp 𝕄 :=
  willBeTo (wmE (F := F)) ℓ Finset.univ q f (fun i => some (g i)) W

theorem wb_split {ℓ : Loc nD τ sig} {q : PosShare TreeShare} {f g : Buf (Elt F) ℓ} {W : Finset (Idx ℓ)} :
    (wb ℓ q f g W : sProp 𝕄) ⊢ iprop(wb ℓ q.left f g W ∗ wb ℓ q.right f g W) := by
  haveI : IsOp q q.left q.right := ⟨PosShare.mem_left_op_right q⟩
  iintro H
  icases H with ⟨H1, H2⟩
  isplitl [H1] <;> iassumption

theorem wb_join {ℓ : Loc nD τ sig} {q : PosShare TreeShare} {f g : Buf (Elt F) ℓ} {W₁ W₂ : Finset (Idx ℓ)} :
    iprop(wb ℓ q.left f g W₁ ∗ wb ℓ q.right f g W₂) ⊢ (wb ℓ q f g (W₁ ∪ W₂) : sProp 𝕄) := by
  haveI : IsOp q q.left q.right := ⟨PosShare.mem_left_op_right q⟩
  iintro ⟨H1, H2⟩
  icombine H1 H2 as H
  iexact H

theorem pts_split {ℓ : Loc nD τ sig} {q : PosShare TreeShare} {f : Buf (Elt F) ℓ} :
    (ℓ ↦{q} f : sProp 𝕄) ⊣⊢ iprop((ℓ ↦{q.left} f) ∗ ℓ ↦{q.right} f) :=
  pointsTo_share (PosShare.mem_left_op_right q)

/-! ## A family of assertions indexed by share and by what is known written, split into tokens and joined back -/

section Toks
variable {A : Type} [SemilatticeSup A] [OrderBot A]

theorem toks_split_range (Φ : PosShare TreeShare → A → sProp 𝕄) (hs : ∀ q, Φ q ⊥ ⊢ iprop(Φ q.left ⊥ ∗ Φ q.right ⊥))
    (q : PosShare TreeShare) (n : ℕ) :
    Φ q ⊥ ⊢ iprop(Φ (shareDrop q n) ⊥ ∗ BI.bigSep (Finset.range n) (fun i => Φ (shareTokN q i) ⊥)) := by
  induction n with
  | zero =>
    rw [Finset.range_zero, BI.bigSep_empty, show shareDrop q 0 = q from rfl]
    iintro H
    isplitl; · iexact H
    iempintro
  | succ n ih =>
    rw [Finset.range_add_one, SparseCore.bigSep_insert' Finset.notMem_range_self, show shareDrop q (n + 1) = (shareDrop q n).left from rfl,
      show shareTokN q n = (shareDrop q n).right from rfl]
    refine ih.trans ?_
    iintro ⟨Hd, Hts⟩
    ihave H := (hs (shareDrop q n)) $$ Hd
    icases H with ⟨Hl, Hr⟩
    isplitl [Hl]; · iexact Hl
    isplitl [Hr]; · iexact Hr
    iexact Hts

theorem toks_join_range (Φ : PosShare TreeShare → A → sProp 𝕄) (hj : ∀ q a b, iprop(Φ q.left a ∗ Φ q.right b) ⊢ Φ q (a ⊔ b))
    (q : PosShare TreeShare) (n : ℕ) (W : ℕ → A) (a : A) :
    iprop(Φ (shareDrop q n) a ∗ BI.bigSep (Finset.range n) (fun i => Φ (shareTokN q i) (W i))) ⊢ Φ q (a ⊔ (Finset.range n).sup W) := by
  induction n generalizing a with
  | zero =>
    rw [Finset.range_zero, BI.bigSep_empty, Finset.sup_empty, sup_bot_eq, show shareDrop q 0 = q from rfl]
    iintro ⟨H, -⟩
    iexact H
  | succ n ih =>
    rw [Finset.range_add_one, SparseCore.bigSep_insert' Finset.notMem_range_self, Finset.sup_insert, ← sup_assoc,
      show shareDrop q (n + 1) = (shareDrop q n).left from rfl, show shareTokN q n = (shareDrop q n).right from rfl]
    refine BIBase.Entails.trans ?_ (ih (a ⊔ W n))
    iintro ⟨Hd, Ht, Hts⟩
    isplitl [Hd Ht]
    · iapply (hj (shareDrop q n) a (W n))
      isplitl [Hd]; · iexact Hd
      iexact Ht
    · iexact Hts

theorem range_fin (n : ℕ) (Ψ : ℕ → sProp 𝕄) : BI.bigSep (Finset.range n) Ψ = BI.bigSep Finset.univ (fun i : Fin n => Ψ i.val) := by
  rw [← Nat.Iio_eq_range, ← Fin.map_valEmbedding_univ, BI.bigSep_map]; rfl

/-- Split: the remainder and one token for each of `n`. -/
theorem toks_split (Φ : PosShare TreeShare → A → sProp 𝕄) (hs : ∀ q, Φ q ⊥ ⊢ iprop(Φ q.left ⊥ ∗ Φ q.right ⊥))
    (q : PosShare TreeShare) (n : ℕ) :
    Φ q ⊥ ⊢ iprop(Φ (shareDrop q n) ⊥ ∗ BI.bigSep Finset.univ (fun i : Fin n => Φ (shareTok q n i) ⊥)) := by
  refine (toks_split_range Φ hs q n).trans (BIBase.Entails.of_eq ?_)
  rw [range_fin]

/-- Join: the remainder and the tokens, each knowing `W i` written, are the whole, knowing the union written. -/
theorem toks_join (Φ : PosShare TreeShare → A → sProp 𝕄) (hj : ∀ q a b, iprop(Φ q.left a ∗ Φ q.right b) ⊢ Φ q (a ⊔ b))
    (q : PosShare TreeShare) (n : ℕ) (W : Fin n → A) :
    iprop(Φ (shareDrop q n) ⊥ ∗ BI.bigSep Finset.univ (fun i : Fin n => Φ (shareTok q n i) (W i))) ⊢ Φ q (Finset.univ.sup W) := by
  have h := toks_join_range Φ hj q n (fun k => if h : k < n then W ⟨k, h⟩ else ⊥) ⊥
  rw [range_fin, bot_sup_eq] at h
  have e : (Finset.range n).sup (fun k => if h : k < n then W ⟨k, h⟩ else ⊥) = Finset.univ.sup W := by
    rw [← Nat.Iio_eq_range, ← Fin.map_valEmbedding_univ, Finset.sup_map]
    refine Finset.sup_congr rfl fun i _ => ?_
    simp
  rw [e] at h
  refine BIBase.Entails.trans (BIBase.Entails.of_eq ?_) h
  congr 1
  refine BI.bigSep_congr fun i _ => ?_
  simp

end Toks

/-! ## A copy out of a buffer into an array in write mode, and its wait -/

/-- `enqueueDma` of a task's buffer into a window of an array in write mode, at once waited for: where the values copied
    are the targets of the window's elements, afterwards the window is known written. -/
theorem wp_copyOut [FloatOps F] [Named F] (c : Thread nD τ) {α : Type} {Q : α → sProp 𝕄} {sp sp' : Space} {s : Shape} {e : EltTy}
    {src : Memref sig c.2.kind sp s e} {dst : Memref sig c.2.kind sp' s e} {sem : DmaSem sig} {hsrc : src.view.WordExact} {hdst : dst.view.WordExact}
    {hsem : DmaTarget.Typed (nD := nD) sp (.dma sem) (.here dst)} {hsrc' : src.view.WordExact} {hdst' : dst.view.WordExact}
    {k : PUnit → Prog (TpuEff nD τ sig (Elt F) Λ₀ c.2) α} {q : PosShare TreeShare} {fs : Buf (Elt F) (src.view.loc c)}
    {qd : PosShare TreeShare} {fd g : Buf (Elt F) (dst.view.loc c)} {M : Finset (Idx (dst.view.loc c))}
    {O : CellTallies nD τ sig (HIx 1)} {W : Waits sig (HIx 1)} (hpos : 0 < s.numel)
    (hadm : dst.view.Admitted (Elt F) (fun i => some (g i)) (src.view.read (Elt F) fs) Finset.univ) :
    iprop((src.view.loc c ↦[src.view.set]{q} fs) ∗ wm ∗ wb (dst.view.loc c) qd fd g M ∗ semVal (c, .dma sem) 0 ∗ owes c O W ∗ MayWait c (.dma sem) none O)
      ⊢ iprop((iprop((src.view.loc c ↦[src.view.set]{q} fs) ∗ wb (dst.view.loc c) qd fd g (M ∪ dst.view.set) ∗ semVal (c, .dma sem) 0
              ∗ owes c O (insert (SemLoc.dma sem, none) W)) -∗ wp frame (wpE (defs₀ (F := F)) 𝒱₀ c none) Set.univ (k ⟨⟩) Q)
          -∗ wp frame (wpE (defs₀ (F := F)) 𝒱₀ c none) Set.univ
              (.op (.enqueueDma src (.here dst) (.dma sem) hsrc hdst hsem) fun _ => .op (.waitDma2 sem src dst hsrc' hdst') k) Q) := by
  unfold wm
  iintro ⟨Hs, ⟨%ιw, #Hwm⟩, Hd, Hv, HO, Hmw⟩ Hk
  imod (Transfers.flight_alloc EC (View.amount_pos dst.view (.dma sem) hpos)
      iprop((wb (dst.view.loc c) qd fd g (M ∪ dst.view.set)) ∗ (src.view.loc c ↦[src.view.set]{q} fs)) (g := (c, .dma sem))) $$ Hv with ⟨%γ, %δ, %κ, #Hinv, Hγ, Hδ⟩
  iapply (wp_enqueueDma (defs := defs₀ (F := F)) 𝒱₀ c none Set.univ (none : HIx 1) (dst.view.amount (.dma sem)) rfl
      (R := iprop(wb (dst.view.loc c) qd fd g (M ∪ dst.view.set)))) $$ [Hs Hd] [Hγ]
  · isplitl [Hs]; · iexact Hs
    iapply (willBeTo_writeUpdate (emb := wmE (F := F)) (ιwm := ιw) c (Finset.subset_univ _) hadm)
    isplitr; · iexact Hwm
    iexact Hd
  · iapply (Transfers.flight_creditUpdate EC (δ := δ))
    isplitr; · iexact Hinv
    iexact Hγ
  iintro Hcred
  ihave Hfl := (Transfers.flight_intro EC c (κ := κ)) $$ [Hδ Hcred]
  · isplitr; · iexact Hinv
    isplitl [Hδ] <;> iassumption
  iapply (Transfers.wp_waitLocalO EC 𝒱₀ c none (none : HIx 1) rfl (O := O) (W := W)) $$ [Hfl HO Hmw]
  · isplitl [Hfl]; · iexact Hfl
    isplitl [HO]; · iexact HO
    iexact Hmw
  iintro ⟨⟨Hd, Hs⟩, Hv, HO⟩
  iapply Hk
  isplitl [Hs]; · iexact Hs
  isplitl [Hd]; · iexact Hd
  isplitl [Hv] <;> iassumption

end Cert.Proof.KernelIdealRun
-- ==== Proof.KernelIdealValues.lean ====
module
public import proofs.«01_k».proof.Proof.KernelIdealBase
@[expose] public section

/-! # The values one task writes

The value that each result element is to take, as a function of what the host hands the kernel (`prm`, the 80 parameters;
`bag`, the bag matrix laid flat), and the steps that carry those values through a task's loop: which words its index
vectors hold, and what a buffer reads after one more group of 16 lanes has been stored. -/

noncomputable section

namespace Cert.Proof.KernelIdealRun

open Cert.KernelIdeal Cert.KernelIdeal.Gen
open Idealize.ShloMosaic

variable {F : FTy → Type}

/-- The index `k` of a shape of one axis. -/
def ix {n : Nat} (k : Fin n) : (⟨1, ![n]⟩ : Shape).Idx := fun a => match a with | 0 => k

/-- The coordinate of an index of a shape of one axis. -/
def co {n : Nat} (x : (⟨1, ![n]⟩ : Shape).Idx) : Fin n := x 0

theorem co_ix {n : Nat} (k : Fin n) : co (ix k) = k := rfl
theorem ix_co {n : Nat} (x : (⟨1, ![n]⟩ : Shape).Idx) : ix (co x) = x := by
  funext a
  obtain rfl : a = 0 := Subsingleton.elim _ _
  rfl
theorem ix_ext {n : Nat} {x y : (⟨1, ![n]⟩ : Shape).Idx} (h : (co x).val = (co y).val) : x = y := by
  rw [← ix_co x, ← ix_co y, Fin.ext h]

/-! ## The targets -/

/-- `j` where the word is positive, `r` otherwise. -/
def pick (w j r : BitVec 32) : BitVec 32 := Scalar.select (IntOp.cmpi .sgt w 0#32) j r

/-- The first of ten words that is positive, and 0 where none is. -/
def elemAt (b : Fin 10 → BitVec 32) : BitVec 32 :=
  pick (b 0) 0#32 (pick (b 1) 1#32 (pick (b 2) 2#32 (pick (b 3) 3#32 (pick (b 4) 4#32
    (pick (b 5) 5#32 (pick (b 6) 6#32 (pick (b 7) 7#32 (pick (b 8) 8#32 (pick (b 9) 9#32 0#32)))))))))

/-- Every focus is 0. -/
def gFocus (_ : S100000.Idx) : BitVec 32 := 0#32
/-- The element of a row: the first positive column of the row's bag. -/
def gElem (bag : S1000000.Idx → BitVec 32) (x : S100000.Idx) : BitVec 32 :=
  elemAt fun j => bag (ix ⟨10 * (co x).val + j.val, by have := (co x).isLt; have := j.isLt; omega⟩)
/-- The distance of a row, from the first 16 parameters. -/
def gDist [FloatOps F] [Named F] (prm : S80.Idx → F .f32) (x : S100000.Idx) : F .f32 :=
  k0_pay15 (fun l : S16.Idx => prm (ix ⟨(co l).val, by have := (co l).isLt; omega⟩)) (ix ⟨(co x).val % 16, Nat.mod_lt _ (by decide)⟩)
/-- The log-probability of a row, from the next 16. -/
def gLogp [FloatOps F] [Named F] (prm : S80.Idx → F .f32) (x : S100000.Idx) : F .f32 :=
  k0_pay16 (fun l : S16.Idx => prm (ix ⟨16 + (co l).val, by have := (co l).isLt; omega⟩)) (ix ⟨(co x).val % 16, Nat.mod_lt _ (by decide)⟩)
/-- The orientations, laid flat: the last 48 parameters over and over. -/
def gOrient (prm : S80.Idx → F .f32) (x : S300000.Idx) : F .f32 :=
  prm (ix ⟨32 + (co x).val % 48, by have := Nat.mod_lt (co x).val (show 0 < 48 by decide); omega⟩)

/-! ## A task's window -/

/-- The first row of the task at the grid's coordinates `L`. -/
def base (L : grid0.Coords) : Nat := min (6272 * (L 1).val + 3136 * (L 0).val) 96864

theorem base_le (L : grid0.Coords) : base L ≤ 96864 := Nat.min_le_right _ _
theorem base_mod (L : grid0.Coords) : base L % 16 = 0 := by unfold base; omega

/-- The window of `L` in an array over the rows. -/
def at1 {β : Type} (L : grid0.Coords) (g : S100000.Idx → β) (x : S3136.Idx) : β :=
  g (ix ⟨base L + (co x).val, by have := (co x).isLt; have := base_le L; omega⟩)
/-- The window of `L` in the orientations. -/
def at3 {β : Type} (L : grid0.Coords) (g : S300000.Idx → β) (x : S9408.Idx) : β :=
  g (ix ⟨3 * base L + (co x).val, by have := (co x).isLt; have := base_le L; omega⟩)
/-- The window of `L` in the bag laid flat. -/
def at10 {β : Type} (L : grid0.Coords) (g : S1000000.Idx → β) (x : S31360.Idx) : β :=
  g (ix ⟨10 * base L + (co x).val, by have := (co x).isLt; have := base_le L; omega⟩)

/-! ## One more group of 16 lanes -/

/-- A buffer that reads `G` below `o`, with 16 lanes of `G` stored at `o`, reads `G` below `o + 16`. -/
theorem read_step {κ : Kind} {sp : Space} {n : Nat} {e : EltTy} (v : View sig κ sp (⟨1, ![n]⟩ : Shape) e) (f : v.ty.Contents (Elt F))
    (G : (⟨1, ![n]⟩ : Shape).Idx → Elt F e) {off : Fin 1 → Nat} (inb : ∀ a, off a + S16.size a ≤ (⟨1, ![n]⟩ : Shape).size a)
    (w : S16.Idx → Elt F e) {o : Nat} (ho : off = ![o]) (hf : ∀ x, (co x).val < o → v.read (Elt F) f x = G x)
    (hw : ∀ (l : S16.Idx) x, (co x).val = o + (co l).val → w l = G x) (x : (⟨1, ![n]⟩ : Shape).Idx) (hx : (co x).val < o + 16) :
    v.read (Elt F) (v.writes (Elt F) f [⟨Rect.unit (s := (⟨1, ![n]⟩ : Shape)) off S16.size inb, w⟩]) x = G x := by
  subst ho
  by_cases h : (co x).val < o
  · rw [View.read_writes_cons_miss_of_axis v f _ _ x 0 o 16 rfl rfl rfl (.inl h)]
    exact hf x h
  · rw [View.read_writes_cons_hit_of_coords v f (Rect.unit (s := (⟨1, ![n]⟩ : Shape)) ![o] S16.size inb) w []
      (ix (n := 16) ⟨(co x).val - o, by omega⟩ : S16.Idx) x fun a => ?_]
    · exact hw _ x (by rw [co_ix]; show _ = o + ((co x).val - o); omega)
    · obtain rfl : a = 0 := Subsingleton.elim _ _
      show (co x).val = o + 1 * ((co x).val - o)
      omega

/-! ## The index vectors of a trip -/

theorem trips_eq : k0_t1_loop.trips ≤ 196 := k0_t1_abs.2.1

/-- The lanes' numbers. -/
abbrev lanes : IVec S16 32 := iota .scVector S16 32 [0] iota_S16_d0_w32_scVector

theorem lanes_apply (l : S16.Idx) : lanes l = BitVec.ofNat 32 (co l).val := by
  have h := (co l).isLt
  revert h
  obtain ⟨k, rfl⟩ : ∃ k, l = ix k := ⟨co l, (ix_co l).symm⟩
  intro _
  rw [co_ix]
  revert k; decide

/-- Lane `l` of trip `t`'s index vector for column `c` holds `10 · (16 t + l) + c`. -/
theorem word_toNat (t : Fin k0_t1_loop.trips) (c : BitVec 32) (hc : c.toNat < 10) (l : S16.Idx) :
    (addi (k0_pay1 lanes 0#32 1#32 t) (broadcast S16 c) l).toNat = 10 * (16 * t.val + (co l).val) + c.toNat := by
  have ht : t.val < 196 := lt_of_lt_of_le t.isLt trips_eq
  have hl : (co l).val < 16 := (co l).isLt
  show ((((0#32 + BitVec.ofNat 32 t.val * 1#32) * 16#32 + lanes l) * 10#32) + c).toNat = _
  rw [lanes_apply]
  simp only [BitVec.toNat_add, BitVec.toNat_mul, BitVec.toNat_ofNat]
  omega

/-- The check of an index vector passes: every lane is inside the task's bag. -/
theorem word_ok (t : Fin k0_t1_loop.trips) (c : BitVec 32) (hc : c.toNat < 10) :
    ∀ a x, ((![addi (k0_pay1 lanes 0#32 1#32 t) (broadcast S16 c)] : Fin 1 → IVec S16 32) a x).toNat < S31360.size a := by
  intro a x
  obtain rfl : a = 0 := Subsingleton.elim _ _
  show (addi (k0_pay1 lanes 0#32 1#32 t) (broadcast S16 c) x).toNat < 31360
  rw [word_toNat t c hc]
  have ht : t.val < 196 := lt_of_lt_of_le t.isLt trips_eq
  have hl : (co x).val < 16 := (co x).isLt
  omega

/-- What a gather by that vector reads of the task's bag: column `c` of the lane's row. -/
theorem gather_word (L : grid0.Coords) (bag : S1000000.Idx → BitVec 32) (t : Fin k0_t1_loop.trips) (c : BitVec 32) (hc : c.toNat < 10)
    (h : ∀ a x, ((![addi (k0_pay1 lanes 0#32 1#32 t) (broadcast S16 c)] : Fin 1 → IVec S16 32) a x).toNat < S31360.size a) (l : S16.Idx)
    (x : S3136.Idx) (hx : (co x).val = 16 * t.val + (co l).val) :
    loadIdx (F := F) (e := .i32) (at10 L bag) ![addi (k0_pay1 lanes 0#32 1#32 t) (broadcast S16 c)] h l
      = bag (ix ⟨10 * (base L + (co x).val) + c.toNat, by have := (co x).isLt; have := base_le L; omega⟩) := by
  show at10 L bag _ = _
  unfold at10
  congr 1
  apply ix_ext
  rw [co_ix, co_ix]
  show 10 * base L + (addi (k0_pay1 lanes 0#32 1#32 t) (broadcast S16 c) l).toNat = _
  rw [word_toNat t c hc]
  show _ = 10 * (base L + (co x).val) + c.toNat
  omega

/-- The element that a trip computes in lane `l` is its row's target. -/
theorem elem_word (L : grid0.Coords) (bag : S1000000.Idx → BitVec 32) (t : Fin k0_t1_loop.trips) (v : Fin 10 → IVec S16 32)
    (hv : ∀ (j : Fin 10) (l : S16.Idx) (x : S3136.Idx), (co x).val = 16 * t.val + (co l).val →
      v j l = bag (ix ⟨10 * (base L + (co x).val) + j.val, by have := (co x).isLt; have := base_le L; have := j.isLt; omega⟩))
    (l : S16.Idx) (x : S3136.Idx) (hx : (co x).val = 16 * t.val + (co l).val) :
    k0_pay14 (F := F) (k0_pay6 (F := F) k0_pay17 (v 9) (v 8) (v 7) (v 6)) (k0_pay8 (F := F) (v 5)) (v 4) (v 3) (v 2) (v 1) (v 0) l = at1 L (gElem bag) x := by
  have h : k0_pay14 (F := F) (k0_pay6 (F := F) k0_pay17 (v 9) (v 8) (v 7) (v 6)) (k0_pay8 (F := F) (v 5)) (v 4) (v 3) (v 2) (v 1) (v 0) l
      = elemAt (fun j => v j l) := rfl
  rw [h]
  unfold at1 gElem
  congr 1
  funext j
  rw [hv j l x hx]
  rfl

end Cert.Proof.KernelIdealRun
-- ==== Proof.KernelIdealTrip.lean ====
module
public import proofs.«01_k».proof.Proof.KernelIdealValues
@[expose] public section

/-! # One trip of a task's loop

A trip gathers ten columns of 16 rows from the task's bag and stores 16 lanes of each result (48 of the orientations) into
the task's buffers. The invariant: below the trip's rows each buffer reads its target. -/

noncomputable section

namespace Cert.Proof.KernelIdealRun

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ (UU F) ℕ

/-! ## The buffers, as the kernel names them -/

abbrev prmH : Memref sig .scVector .hbm S80 .f32 := Memref.whole main_v8_scv
abbrev bagH : Memref sig .scVector .hbm S1000000 .i32 := Memref.whole main_v0_scv
abbrev focusH : Memref sig .scVector .hbm S100000 .i32 := Memref.whole main_v9_0_scv
abbrev elemH : Memref sig .scVector .hbm S100000 .i32 := Memref.whole main_v9_1_scv
abbrev distH : Memref sig .scVector .hbm S100000 .f32 := Memref.whole main_v9_2_scv
abbrev orientH : Memref sig .scVector .hbm S300000 .f32 := Memref.whole main_v9_3_scv
abbrev logpH : Memref sig .scVector .hbm S100000 .f32 := Memref.whole main_v9_4_scv
abbrev bagV : Memref sig .scVector .vmem S31360 .i32 := Memref.whole cc0_scratch0
abbrev focusV : Memref sig .scVector .vmem S3136 .i32 := Memref.whole cc0_scratch1
abbrev elemV : Memref sig .scVector .vmem S3136 .i32 := Memref.whole cc0_scratch2
abbrev distV : Memref sig .scVector .vmem S3136 .f32 := Memref.whole cc0_scratch3
abbrev orientV : Memref sig .scVector .vmem S9408 .f32 := Memref.whole cc0_scratch4
abbrev logpV : Memref sig .scVector .vmem S3136 .f32 := Memref.whole cc0_scratch5
abbrev prmV : Memref sig .scVector .vmem S80 .f32 := Memref.whole cc0_scratch6

/-- The SparseCore and the subcore of a grid point. -/
abbrev cV (L : grid0.Coords) : Fin τ.nSC := (L 0).castLE hcore0
abbrev jV (L : grid0.Coords) : Fin τ.nSub := (L 1).castLE hsub0
/-- Its thread on device `d`. -/
abbrev thr (d : Dev nD) (L : grid0.Coords) : Thread nD τ := V d (cV L) (jV L)

section Trip

variable [FloatOps F] [Named F] (d : Dev nD) (L : grid0.Coords)

/-- An indexed load of the task's bag, held at `B`. -/
theorem wp_gather {α : Type} {Q : α → sProp 𝕄} (B : S31360.Idx → BitVec 32) (v : IVec S16 32)
    {h : ∀ a x, ((![v] : Fin 1 → IVec S16 32) a x).toNat < S31360.size a} {hl : (bagV : Memref sig .scVector .vmem S31360 .i32).view.Loads}
    {k : Vec F S16 .i32 → Prog (TpuEff nD τ sig (Elt F) Λ₀ (thr d L).2) α} :
    ((bagV).view.loc (thr d L) ↦{fullShare} B : sProp 𝕄)
      ⊢ iprop((((bagV).view.loc (thr d L) ↦{fullShare} B)
          -∗ wp frame (wpE (defs₀ (F := F)) 𝒱₀ (thr d L) none) Set.univ (k (loadIdx (F := F) (e := .i32) B ![v] h)) Q)
        -∗ wp frame (wpE (defs₀ (F := F)) 𝒱₀ (thr d L) none) Set.univ (SparseCore.vectorLoadIdx bagV ![v] h hl >>= k) Q) := by
  have hr : ((bagV : Memref sig .scVector .vmem S31360 .i32).access (.whole S31360)).read (Elt F) B = B := by
    funext x
    show B _ = B x
    congr 1
    apply ix_ext
    show 0 + 1 * (co x).val = (co x).val
    omega
  have e := SparseCore.wp_vectorLoadIdx (Ix := HIx 1) (Name := ℕ) (U := UU F) (Lvl := ℕ) (defs := defs₀ (F := F)) 𝒱₀ (thr d L) none Set.univ (base := bagV) (idxs := ![v]) (h := h) (hl := hl) (k := k) (Q := Q)
    (S := Finset.univ) (q := fullShare) (f := B) (Finset.subset_univ _)
  rw [hr] at e
  exact e

/-- The same by the index vector of column `j` of trip `t`: the program continues at a vector known by its lanes. -/
theorem wp_column {α : Type} {Q : α → sProp 𝕄} (bag : S1000000.Idx → BitVec 32) (t : Fin k0_t1_loop.trips) (j : Fin 10) (v : IVec S16 32)
    (hv : v = addi (k0_pay1 lanes 0#32 1#32 t) (broadcast S16 (BitVec.ofNat 32 j.val)))
    {h : ∀ a x, ((![v] : Fin 1 → IVec S16 32) a x).toNat < S31360.size a} {hl : (bagV : Memref sig .scVector .vmem S31360 .i32).view.Loads}
    {k : Vec F S16 .i32 → Prog (TpuEff nD τ sig (Elt F) Λ₀ (thr d L).2) α} :
    ((bagV).view.loc (thr d L) ↦{fullShare} at10 L bag : sProp 𝕄)
      ⊢ iprop((∀ w : IVec S16 32, ⌜∀ (l : S16.Idx) (x : S3136.Idx), (co x).val = 16 * t.val + (co l).val →
              w l = bag (ix ⟨10 * (base L + (co x).val) + j.val, by have := (co x).isLt; have := base_le L; have := j.isLt; omega⟩)⌝
            -∗ ((bagV).view.loc (thr d L) ↦{fullShare} at10 L bag)
            -∗ wp frame (wpE (defs₀ (F := F)) 𝒱₀ (thr d L) none) Set.univ (k w) Q)
        -∗ wp frame (wpE (defs₀ (F := F)) 𝒱₀ (thr d L) none) Set.univ (SparseCore.vectorLoadIdx bagV ![v] h hl >>= k) Q) := by
  have hj : (BitVec.ofNat 32 j.val).toNat = j.val := by clear hv; revert j; decide
  subst hv
  iintro Hb Hk
  iapply (wp_gather d L (at10 L bag) _) $$ Hb
  iapply Hk
  ipureintro
  intro l x hx
  rw [gather_word L bag t (BitVec.ofNat 32 j.val) (by rw [hj]; exact j.isLt) _ l x hx]
  congr 1
  apply ix_ext
  rw [co_ix, co_ix]
  exact congrArg (10 * (base L + (co x).val) + ·) hj

/-- A load whose result is not used and a store of 16 lanes at `o`: a buffer that reads `G` below `o` reads `G` below `o + 16`. -/
theorem wp_put {α : Type} {Q : α → sProp 𝕄} {n : Nat} {e : EltTy} (m : Memref sig .scVector .vmem (⟨1, ![n]⟩ : Shape) e)
    (G : (⟨1, ![n]⟩ : Shape).Idx → Elt F e) {off : Fin 1 → Nat} (inb : ∀ a, off a + S16.size a ≤ (⟨1, ![n]⟩ : Shape).size a) (w : S16.Idx → Elt F e)
    {o : Nat} (ho : off = ![o]) (hw : ∀ (l : S16.Idx) x, (co x).val = o + (co l).val → w l = G x)
    {hl : m.view.LoadsAt (Rect.unit (s := (⟨1, ![n]⟩ : Shape)) off S16.size inb).toLoadRect}
    {hx : (m.access (Rect.unit (s := (⟨1, ![n]⟩ : Shape)) off S16.size inb)).Stores Finset.univ}
    {hm : (Finset.univ : Finset (Rect.unit (s := (⟨1, ![n]⟩ : Shape)) off S16.size inb).shape.Idx) = Finset.univ
      ∨ ∀ a, (Rect.unit (s := (⟨1, ![n]⟩ : Shape)) off S16.size inb).stride a = 1}
    {k : PUnit → Prog (TpuEff nD τ sig (Elt F) Λ₀ (thr d L).2) α} :
    iprop(∃ f, ⌜∀ x, (co x).val < o → m.view.read (Elt F) f x = G x⌝ ∗ m.view.loc (thr d L) ↦{fullShare} f)
      ⊢ iprop(((∃ f, ⌜∀ x, (co x).val < o + 16 → m.view.read (Elt F) f x = G x⌝ ∗ m.view.loc (thr d L) ↦{fullShare} f)
            -∗ wp frame (wpE (defs₀ (F := F)) 𝒱₀ (thr d L) none) Set.univ (k ⟨⟩) Q)
        -∗ wp frame (wpE (defs₀ (F := F)) 𝒱₀ (thr d L) none) Set.univ
            (.op (.load m (Rect.unit (s := (⟨1, ![n]⟩ : Shape)) off S16.size inb).toLoadRect hl) fun _ =>
              .op (.store m (Rect.unit (s := (⟨1, ![n]⟩ : Shape)) off S16.size inb) w Finset.univ hx hm) k) Q) := by
  iintro ⟨%f, %hf, H⟩ Hk
  have he := wp_store_writes₀ (defs := defs₀ (F := F)) 𝒱₀ (thr d L) none Set.univ (m := m) (r := Rect.unit (s := (⟨1, ![n]⟩ : Shape)) off S16.size inb) (w := w)
    (hx := hx) (hm := hm) (k := k) (S := Finset.univ) (f := f) (Q := Q) (Finset.subset_univ _)
  iapply (wp_load 𝒱₀ (thr d L) none Set.univ (m := m) (S := Finset.univ) (Finset.subset_univ _)) $$ H; iintro H
  iapply he $$ H; iintro H
  iapply Hk
  iexists (m.view.writes (Elt F) f [⟨Rect.unit (s := (⟨1, ![n]⟩ : Shape)) off S16.size inb, w⟩])
  isplitr
  · ipureintro
    intro x hx
    exact read_step m.view f G inb w ho hf hw x hx
  · iexact H

/-- Before trip `t`: the bag is the task's window of `bag`, and below the trip's rows the five buffers read their targets. -/
def inv (prm : S80.Idx → F .f32) (bag : S1000000.Idx → BitVec 32) (t : Nat) (_ : PUnit) : sProp 𝕄 :=
  iprop(((bagV).view.loc (thr d L) ↦{fullShare} at10 L bag)
    ∗ (∃ f, ⌜∀ x, (co x).val < 16 * t → (focusV).view.read (Elt F) f x = at1 L gFocus x⌝ ∗ (focusV).view.loc (thr d L) ↦{fullShare} f)
    ∗ (∃ f, ⌜∀ x, (co x).val < 16 * t → (elemV).view.read (Elt F) f x = at1 L (gElem bag) x⌝ ∗ (elemV).view.loc (thr d L) ↦{fullShare} f)
    ∗ (∃ f, ⌜∀ x, (co x).val < 16 * t → (distV).view.read (Elt F) f x = at1 L (gDist prm) x⌝ ∗ (distV).view.loc (thr d L) ↦{fullShare} f)
    ∗ (∃ f, ⌜∀ x, (co x).val < 48 * t → (orientV).view.read (Elt F) f x = at3 L (gOrient prm) x⌝ ∗ (orientV).view.loc (thr d L) ↦{fullShare} f)
    ∗ (∃ f, ⌜∀ x, (co x).val < 16 * t → (logpV).view.read (Elt F) f x = at1 L (gLogp prm) x⌝ ∗ (logpV).view.loc (thr d L) ↦{fullShare} f))

/-- A trip keeps the invariant. The vectors read before the loop are given by what their lanes hold. -/
theorem trip (prm : S80.Idx → F .f32) (bag : S1000000.Idx → BitVec 32) (v8 v9 v10 v23 v29 : S16.Idx → F .f32)
    (h8 : ∀ l : S16.Idx, v8 l = prm (ix ⟨32 + (co l).val, by have := (co l).isLt; omega⟩))
    (h9 : ∀ l : S16.Idx, v9 l = prm (ix ⟨48 + (co l).val, by have := (co l).isLt; omega⟩))
    (h10 : ∀ l : S16.Idx, v10 l = prm (ix ⟨64 + (co l).val, by have := (co l).isLt; omega⟩))
    (h23 : ∀ l : S16.Idx, v23 l = k0_pay15 (fun l : S16.Idx => prm (ix ⟨(co l).val, by have := (co l).isLt; omega⟩)) l)
    (h29 : ∀ l : S16.Idx, v29 l = k0_pay16 (fun l : S16.Idx => prm (ix ⟨16 + (co l).val, by have := (co l).isLt; omega⟩)) l)
    (t : Fin k0_t1_loop.trips) :
    inv d L prm bag t.val ⟨⟩
      ⊢ wp frame (wpE (defs₀ (F := F)) 𝒱₀ (thr d L) none) Set.univ
          (k0_t1_body L prmH (Memref.isWhole_whole _) bagH (Memref.isWhole_whole _) focusH (Memref.isWhole_whole _) elemH (Memref.isWhole_whole _)
            distH (Memref.isWhole_whole _) orientH (Memref.isWhole_whole _) logpH (Memref.isWhole_whole _) bagV (Memref.isWhole_whole _)
            focusV (Memref.isWhole_whole _) elemV (Memref.isWhole_whole _) distV (Memref.isWhole_whole _) orientV (Memref.isWhole_whole _)
            logpV (Memref.isWhole_whole _) prmV (Memref.isWhole_whole _) cc0_scoped0 cc0_scoped1 cc0_scoped2 cc0_scoped3 cc0_scoped4 cc0_scoped5 cc0_scoped6
            v8 v9 v10 v23 v29 k0_pay17 lanes t ⟨⟩)
          (inv d L prm bag (t.val + 1)) := by
  have hB := base_mod L
  have hBl := base_le L
  have ht : t.val < 196 := lt_of_lt_of_le t.isLt trips_eq
  obtain ⟨Q, hQ⟩ : ∃ Q, Q = inv d L prm bag (t.val + 1) := ⟨_, rfl⟩
  rw [← hQ]
  unfold inv k0_t1_body
  simp only [k0_part1_eq_skeleton, k0_part2_eq_skeleton]
  unfold k0_part1_skel k0_part2_skel
  simp only [Prog.lift, Prog.bind_op, Prog.bind_ret, Prog.pure_eq_ret, Prog.bind_assoc]
  iintro ⟨Hb, Hf, He, Hd, Ho, Hl⟩
  rw [wp_assume_of _ _ _ _ (show k0_chk1 (k0_pay2 lanes 0#32 1#32 t) from word_ok t 9#32 (by decide))]
  iapply (wp_column d L bag t 9 (k0_pay2 lanes 0#32 1#32 t) rfl) $$ Hb; iintro %w9 %hw9 Hb
  rw [wp_assume_of _ _ _ _ (show k0_chk2 (k0_pay3 lanes 0#32 1#32 t) from word_ok t 8#32 (by decide))]
  iapply (wp_column d L bag t 8 (k0_pay3 lanes 0#32 1#32 t) rfl) $$ Hb; iintro %w8 %hw8 Hb
  rw [wp_assume_of _ _ _ _ (show k0_chk3 (k0_pay4 lanes 0#32 1#32 t) from word_ok t 7#32 (by decide))]
  iapply (wp_column d L bag t 7 (k0_pay4 lanes 0#32 1#32 t) rfl) $$ Hb; iintro %w7 %hw7 Hb
  rw [wp_assume_of _ _ _ _ (show k0_chk4 (k0_pay5 lanes 0#32 1#32 t) from word_ok t 6#32 (by decide))]
  iapply (wp_column d L bag t 6 (k0_pay5 lanes 0#32 1#32 t) rfl) $$ Hb; iintro %w6 %hw6 Hb
  rw [wp_assume_of _ _ _ _ (show k0_chk5 (k0_pay7 lanes 0#32 1#32 t) from word_ok t 5#32 (by decide))]
  iapply (wp_column d L bag t 5 (k0_pay7 lanes 0#32 1#32 t) rfl) $$ Hb; iintro %w5 %hw5 Hb
  rw [wp_assume_of _ _ _ _ (show k0_chk6 (k0_pay9 (k0_pay1 lanes 0#32 1#32 t)) from word_ok t 4#32 (by decide))]
  iapply (wp_column d L bag t 4 (k0_pay9 (k0_pay1 lanes 0#32 1#32 t)) rfl) $$ Hb; iintro %w4 %hw4 Hb
  rw [wp_assume_of _ _ _ _ (show k0_chk7 (k0_pay10 (k0_pay1 lanes 0#32 1#32 t)) from word_ok t 3#32 (by decide))]
  iapply (wp_column d L bag t 3 (k0_pay10 (k0_pay1 lanes 0#32 1#32 t)) rfl) $$ Hb; iintro %w3 %hw3 Hb
  rw [wp_assume_of _ _ _ _ (show k0_chk8 (k0_pay11 (k0_pay1 lanes 0#32 1#32 t)) from word_ok t 2#32 (by decide))]
  iapply (wp_column d L bag t 2 (k0_pay11 (k0_pay1 lanes 0#32 1#32 t)) rfl) $$ Hb; iintro %w2 %hw2 Hb
  rw [wp_assume_of _ _ _ _ (show k0_chk9 (k0_pay12 (k0_pay1 lanes 0#32 1#32 t)) from word_ok t 1#32 (by decide))]
  iapply (wp_column d L bag t 1 (k0_pay12 (k0_pay1 lanes 0#32 1#32 t)) rfl) $$ Hb; iintro %w1 %hw1 Hb
  rw [wp_assume_of _ _ _ _ (show k0_chk10 (k0_pay13 (k0_pay1 lanes 0#32 1#32 t)) from word_ok t 0#32 (by decide))]
  iapply (wp_column d L bag t 0 (k0_pay13 (k0_pay1 lanes 0#32 1#32 t)) rfl) $$ Hb; iintro %w0 %hw0 Hb
  have hw : ∀ (j : Fin 10) (l : S16.Idx) (x : S3136.Idx), (co x).val = 16 * t.val + (co l).val →
      (![w0, w1, w2, w3, w4, w5, w6, w7, w8, w9] : Fin 10 → IVec S16 32) j l
        = bag (ix ⟨10 * (base L + (co x).val) + j.val, by have := (co x).isLt; have := base_le L; have := j.isLt; omega⟩) := by
    intro j l x hx
    match j with
    | 0 => exact hw0 l x hx
    | 1 => exact hw1 l x hx
    | 2 => exact hw2 l x hx
    | 3 => exact hw3 l x hx
    | 4 => exact hw4 l x hx
    | 5 => exact hw5 l x hx
    | 6 => exact hw6 l x hx
    | 7 => exact hw7 l x hx
    | 8 => exact hw8 l x hx
    | 9 => exact hw9 l x hx
  have e3 : k0_off4 t 16#32 = ![48 * t.val + 16] := k0_off4_eq t 0
  have e4 : k0_off4 t 32#32 = ![48 * t.val + 16 + 16] := k0_off4_eq t 1
  iapply (wp_put d L elemV (at1 L (gElem bag)) (k0_off2_inb t) _ (k0_off2_eq t)
    (fun l x h => elem_word L bag t ![w0, w1, w2, w3, w4, w5, w6, w7, w8, w9] hw l x h)) $$ He; iintro He
  iapply (wp_put d L focusV (at1 L gFocus) (k0_off2_inb t) _ (k0_off2_eq t) (fun l x h => rfl)) $$ Hf; iintro Hf
  iapply (wp_put d L distV (at1 L (gDist prm)) (k0_off2_inb t) v23 (k0_off2_eq t)
      (fun l x h => (h23 l).trans (congrArg _ (ix_ext (by
        have := (co l).isLt
        show (co l).val = (base L + (co x).val) % 16
        omega))))) $$ Hd; iintro Hd
  iapply (wp_put d L logpV (at1 L (gLogp prm)) (k0_off2_inb t) v29 (k0_off2_eq t)
      (fun l x h => (h29 l).trans (congrArg _ (ix_ext (by
        have := (co l).isLt
        show (co l).val = (base L + (co x).val) % 16
        omega))))) $$ Hl; iintro Hl
  iapply (wp_put d L orientV (at3 L (gOrient prm)) (k0_off3_inb t) v8 (k0_off3_eq t)
      (fun l x h => (h8 l).trans (congrArg prm (ix_ext (by
            have := (co l).isLt
            show 32 + (co l).val = 32 + (3 * base L + (co x).val) % 48
            omega))))) $$ Ho; iintro Ho
  iapply (wp_put d L orientV (at3 L (gOrient prm)) (off := k0_off4 t 16#32) (k0_off4_inb t 0) v9 e3
      (fun l x h => (h9 l).trans (congrArg prm (ix_ext (by
            have := (co l).isLt
            show 48 + (co l).val = 32 + (3 * base L + (co x).val) % 48
            omega))))) $$ Ho; iintro Ho
  iapply (wp_put d L orientV (at3 L (gOrient prm)) (off := k0_off4 t 32#32) (k0_off4_inb t 1) v10 e4
      (fun l x h => (h10 l).trans (congrArg prm (ix_ext (by
            have := (co l).isLt
            show 64 + (co l).val = 32 + (3 * base L + (co x).val) % 48
            omega))))) $$ Ho; iintro Ho
  rw [wp_ret]; imodintro
  rw [hQ]; unfold inv
  simp only [show 16 * (t.val + 1) = 16 * t.val + 16 by omega, show 48 * (t.val + 1) = 48 * t.val + 16 + 16 + 16 by omega]
  isplitl [Hb]; · iexact Hb
  isplitl [Hf]; · iexact Hf
  isplitl [He]; · iexact He
  isplitl [Hd]; · iexact Hd
  isplitl [Ho]; · iexact Ho
  iexact Hl

end Trip

end Cert.Proof.KernelIdealRun
-- ==== Proof.KernelIdealArrays.lean ====
module
public import proofs.«01_k».proof.Proof.KernelIdealTrip
@[expose] public section

/-! # What a task holds of the arrays, and its copies -/

noncomputable section

namespace Cert.Proof.KernelIdealRun

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ (UU F) ℕ

/-! ## What the tasks hold of the arrays -/

/-- The arrays' contents when the tasks start. -/
structure Ins (F : FTy → Type) where
  prm : S80.Idx → F .f32
  bag : S1000000.Idx → BitVec 32
  focus : S100000.Idx → BitVec 32
  elem : S100000.Idx → BitVec 32
  dist : S100000.Idx → F .f32
  orient : S300000.Idx → F .f32
  logp : S100000.Idx → F .f32

abbrev prmL (d : Dev nD) : Loc nD τ sig := (SparseCore.T d).loc main_v8
abbrev bagL (d : Dev nD) : Loc nD τ sig := (SparseCore.T d).loc main_v0
abbrev focusL (d : Dev nD) : Loc nD τ sig := (SparseCore.T d).loc main_v9_0
abbrev elemL (d : Dev nD) : Loc nD τ sig := (SparseCore.T d).loc main_v9_1
abbrev distL (d : Dev nD) : Loc nD τ sig := (SparseCore.T d).loc main_v9_2
abbrev orientL (d : Dev nD) : Loc nD τ sig := (SparseCore.T d).loc main_v9_3
abbrev logpL (d : Dev nD) : Loc nD τ sig := (SparseCore.T d).loc main_v9_4

/-- Sets of rows, and of elements of the orientations. -/
abbrev Marks : Type := Finset S100000.Idx × Finset S300000.Idx

/-- A share of the arrays: the two read arrays, and the five results in write mode with `W` known written. -/
def res [FloatOps F] [Named F] (d : Dev nD) (X : Ins F) (q : PosShare TreeShare) (W : Marks) : sProp 𝕄 :=
  iprop((prmL d ↦{q} X.prm) ∗ (bagL d ↦{q} X.bag)
    ∗ wb (focusL d) q X.focus gFocus W.1 ∗ wb (elemL d) q X.elem (gElem X.bag) W.1 ∗ wb (distL d) q X.dist (gDist X.prm) W.1
    ∗ wb (orientL d) q X.orient (gOrient X.prm) W.2 ∗ wb (logpL d) q X.logp (gLogp X.prm) W.1)

/-- A task's rows, and its elements of the orientations. -/
def win (L : grid0.Coords) : Marks :=
  ((Rect.unit (s := S100000) (k0_off5 L) S3136.size (k0_off5_inb L)).set, (Rect.unit (s := S300000) (k0_off6 L) S9408.size (k0_off6_inb L)).set)

/-! ## A copy into a task's buffer, and its wait -/

/-- `enqueueDma` into a buffer of the task, at once waited for: the buffer then holds what the source reads. -/
theorem wp_copyIn [FloatOps F] [Named F] (c : Thread nD τ) {α : Type} {Q : α → sProp 𝕄} {sp sp' : Space} {s : Shape} {e : EltTy}
    {src : Memref sig c.2.kind sp s e} {dst : Memref sig c.2.kind sp' s e} {sem : DmaSem sig} {hsrc : src.view.WordExact} {hdst : dst.view.WordExact}
    {hsem : DmaTarget.Typed (nD := nD) sp (.dma sem) (.here dst)} {hsrc' : src.view.WordExact} {hdst' : dst.view.WordExact}
    {k : PUnit → Prog (TpuEff nD τ sig (Elt F) Λ₀ c.2) α} {q : PosShare TreeShare} {fs : Buf (Elt F) (src.view.loc c)}
    {fd : Buf (Elt F) (dst.view.loc c)} {O : CellTallies nD τ sig (HIx 1)} {W : Waits sig (HIx 1)} (hpos : 0 < s.numel) :
    iprop((src.view.loc c ↦{q} fs) ∗ (dst.view.loc c ↦{fullShare} fd) ∗ semVal (c, .dma sem) 0 ∗ owes c O W ∗ MayWait c (.dma sem) none O)
      ⊢ iprop((iprop((src.view.loc c ↦{q} fs)
              ∗ (dst.view.loc c ↦{fullShare} dst.view.write (Elt F) fd (src.view.read (Elt F) fs) Finset.univ) ∗ semVal (c, .dma sem) 0
              ∗ owes c O (insert (SemLoc.dma sem, none) W)) -∗ wp frame (wpE (defs₀ (F := F)) 𝒱₀ c none) Set.univ (k ⟨⟩) Q)
          -∗ wp frame (wpE (defs₀ (F := F)) 𝒱₀ c none) Set.univ
              (.op (.enqueueDma src (.here dst) (.dma sem) hsrc hdst hsem) fun _ => .op (.waitDma2 sem src dst hsrc' hdst') k) Q) := by
  iintro ⟨Hs, Hd, Hv, HO, Hmw⟩ Hk
  ihave Hs := ((pointsTo_split_subset (ℓ := src.view.loc c) (q := q) (f := fs) (Finset.subset_univ src.view.set)).1) $$ Hs
  icases Hs with ⟨Hs, Hr⟩
  have h := Transfers.wp_dmaLocal (Ix := HIx 1) (Lvl := ℕ) EC (defs := defs₀ (F := F)) 𝒱₀ c none (src := src) (via := ReadAs.same) (dst := dst) (sm := .dma sem) (hsrc := hsrc)
    (hdst := hdst) (hsem := hsem) (k := fun _ => .op (.waitDma2 sem src dst hsrc' hdst') k) (Q := Q) (q := q) (fs := fs) (Sd := Finset.univ) (fd := fd)
    (none : HIx 1) (dst.view.amount (.dma sem)) rfl (View.amount_pos dst.view (.dma sem) hpos) (Finset.subset_univ _)
  iapply h $$ [Hs Hd Hv]
  · isplitl [Hs]; · iexact Hs
    isplitl [Hd]; · iexact Hd
    iexact Hv
  iintro Hfl
  iapply (Transfers.wp_waitLocalO EC 𝒱₀ c none (none : HIx 1) rfl (O := O) (W := W)) $$ [Hfl HO Hmw]
  · isplitl [Hfl]; · iexact Hfl
    isplitl [HO]; · iexact HO
    iexact Hmw
  iintro ⟨⟨Hd, Hs⟩, Hv, HO⟩
  iapply Hk
  isplitl [Hs Hr]
  · iapply ((pointsTo_split_subset (ℓ := src.view.loc c) (q := q) (f := fs) (Finset.subset_univ src.view.set)).2)
    isplitl [Hs] <;> iassumption
  isplitl [Hd]; · iexact Hd
  isplitl [Hv] <;> iassumption

/-- A copy out whose source buffer is held whole. -/
theorem wp_copyOutWhole [FloatOps F] [Named F] (c : Thread nD τ) {α : Type} {Q : α → sProp 𝕄} {sp sp' : Space} {s : Shape} {e : EltTy}
    {src : Memref sig c.2.kind sp s e} {dst : Memref sig c.2.kind sp' s e} {sem : DmaSem sig} {hsrc : src.view.WordExact} {hdst : dst.view.WordExact}
    {hsem : DmaTarget.Typed (nD := nD) sp (.dma sem) (.here dst)} {hsrc' : src.view.WordExact} {hdst' : dst.view.WordExact}
    {k : PUnit → Prog (TpuEff nD τ sig (Elt F) Λ₀ c.2) α} {q : PosShare TreeShare} {fs : Buf (Elt F) (src.view.loc c)}
    {qd : PosShare TreeShare} {fd g : Buf (Elt F) (dst.view.loc c)} {M : Finset (Idx (dst.view.loc c))}
    {O : CellTallies nD τ sig (HIx 1)} {W : Waits sig (HIx 1)} (hpos : 0 < s.numel)
    (hadm : dst.view.Admitted (Elt F) (fun i => some (g i)) (src.view.read (Elt F) fs) Finset.univ)
    (R : Finset (Idx (dst.view.loc c))) (hR : dst.view.set = R) :
    iprop((src.view.loc c ↦{q} fs) ∗ wm ∗ wb (dst.view.loc c) qd fd g M ∗ semVal (c, .dma sem) 0 ∗ owes c O W ∗ MayWait c (.dma sem) none O)
      ⊢ iprop((iprop((src.view.loc c ↦{q} fs) ∗ wb (dst.view.loc c) qd fd g (M ∪ R) ∗ semVal (c, .dma sem) 0
              ∗ owes c O (insert (SemLoc.dma sem, none) W)) -∗ wp frame (wpE (defs₀ (F := F)) 𝒱₀ c none) Set.univ (k ⟨⟩) Q)
          -∗ wp frame (wpE (defs₀ (F := F)) 𝒱₀ c none) Set.univ
              (.op (.enqueueDma src (.here dst) (.dma sem) hsrc hdst hsem) fun _ => .op (.waitDma2 sem src dst hsrc' hdst') k) Q) := by
  subst hR
  iintro ⟨Hs, Hwm, Hd, Hv, HO, Hmw⟩ Hk
  ihave Hs := ((pointsTo_split_subset (ℓ := src.view.loc c) (q := q) (f := fs) (Finset.subset_univ src.view.set)).1) $$ Hs
  icases Hs with ⟨Hs, Hr⟩
  iapply (wp_copyOut c (fs := fs) (fd := fd) (g := g) (M := M) (O := O) (W := W) hpos hadm) $$ [Hs Hwm Hd Hv HO Hmw]
  · isplitl [Hs]; · iexact Hs
    isplitl [Hwm]; · iexact Hwm
    isplitl [Hd]; · iexact Hd
    isplitl [Hv]; · iexact Hv
    isplitl [HO] <;> iassumption
  iintro ⟨Hs, Hd, Hv, HO⟩
  iapply Hk
  isplitl [Hs Hr]
  · iapply ((pointsTo_split_subset (ℓ := src.view.loc c) (q := q) (f := fs) (Finset.subset_univ src.view.set)).2)
    isplitl [Hs] <;> iassumption
  isplitl [Hd]; · iexact Hd
  isplitl [Hv] <;> iassumption

/-! ## The task's own buffers and semaphores, one by one -/

section Task

variable [FloatOps F] [Named F] (d : Dev nD) (L : grid0.Coords)

abbrev semRest : sProp 𝕄 := bigSep ((((((((ownCells (V d (cV L) (jV L))).erase (V d (cV L) (jV L), .dma cc0_scoped0.sem)).erase (V d (cV L) (jV L), .dma cc0_scoped1.sem)).erase (V d (cV L) (jV L), .dma cc0_scoped2.sem)).erase (V d (cV L) (jV L), .dma cc0_scoped3.sem)).erase (V d (cV L) (jV L), .dma cc0_scoped4.sem)).erase (V d (cV L) (jV L), .dma cc0_scoped5.sem)).erase (V d (cV L) (jV L), .dma cc0_scoped6.sem)) fun g => semVal g 0

theorem ownSems0_task : (ownSems0 (V d (cV L) (jV L)) : sProp 𝕄)
    = iprop(semVal (V d (cV L) (jV L), .dma cc0_scoped0.sem) 0 ∗ semVal (V d (cV L) (jV L), .dma cc0_scoped1.sem) 0 ∗ semVal (V d (cV L) (jV L), .dma cc0_scoped2.sem) 0 ∗ semVal (V d (cV L) (jV L), .dma cc0_scoped3.sem) 0 ∗ semVal (V d (cV L) (jV L), .dma cc0_scoped4.sem) 0 ∗ semVal (V d (cV L) (jV L), .dma cc0_scoped5.sem) 0 ∗ semVal (V d (cV L) (jV L), .dma cc0_scoped6.sem) 0 ∗ semRest d L) := by
  unfold SparseCore.Cfg.ownSems0
  rw [SparseCore.bigSep_erase' ((mem_ownCells (g := ((V d (cV L) (jV L), .dma cc0_scoped0.sem) : GSem nD τ sig))).mpr ⟨rfl, by show (SemLoc.dma cc0_scoped0.sem : SemLoc sig).isScoped .scVector = true; decide⟩),
    SparseCore.bigSep_erase' (Finset.mem_erase.mpr ⟨fun e => absurd (Prod.ext_iff.mp e).2 (show (SemLoc.dma cc0_scoped1.sem : SemLoc sig) ≠ SemLoc.dma cc0_scoped0.sem by decide), (mem_ownCells (g := ((V d (cV L) (jV L), .dma cc0_scoped1.sem) : GSem nD τ sig))).mpr ⟨rfl, by show (SemLoc.dma cc0_scoped1.sem : SemLoc sig).isScoped .scVector = true; decide⟩⟩),
    SparseCore.bigSep_erase' (Finset.mem_erase.mpr ⟨fun e => absurd (Prod.ext_iff.mp e).2 (show (SemLoc.dma cc0_scoped2.sem : SemLoc sig) ≠ SemLoc.dma cc0_scoped1.sem by decide), Finset.mem_erase.mpr ⟨fun e => absurd (Prod.ext_iff.mp e).2 (show (SemLoc.dma cc0_scoped2.sem : SemLoc sig) ≠ SemLoc.dma cc0_scoped0.sem by decide), (mem_ownCells (g := ((V d (cV L) (jV L), .dma cc0_scoped2.sem) : GSem nD τ sig))).mpr ⟨rfl, by show (SemLoc.dma cc0_scoped2.sem : SemLoc sig).isScoped .scVector = true; decide⟩⟩⟩),
    SparseCore.bigSep_erase' (Finset.mem_erase.mpr ⟨fun e => absurd (Prod.ext_iff.mp e).2 (show (SemLoc.dma cc0_scoped3.sem : SemLoc sig) ≠ SemLoc.dma cc0_scoped2.sem by decide), Finset.mem_erase.mpr ⟨fun e => absurd (Prod.ext_iff.mp e).2 (show (SemLoc.dma cc0_scoped3.sem : SemLoc sig) ≠ SemLoc.dma cc0_scoped1.sem by decide), Finset.mem_erase.mpr ⟨fun e => absurd (Prod.ext_iff.mp e).2 (show (SemLoc.dma cc0_scoped3.sem : SemLoc sig) ≠ SemLoc.dma cc0_scoped0.sem by decide), (mem_ownCells (g := ((V d (cV L) (jV L), .dma cc0_scoped3.sem) : GSem nD τ sig))).mpr ⟨rfl, by show (SemLoc.dma cc0_scoped3.sem : SemLoc sig).isScoped .scVector = true; decide⟩⟩⟩⟩),
    SparseCore.bigSep_erase' (Finset.mem_erase.mpr ⟨fun e => absurd (Prod.ext_iff.mp e).2 (show (SemLoc.dma cc0_scoped4.sem : SemLoc sig) ≠ SemLoc.dma cc0_scoped3.sem by decide), Finset.mem_erase.mpr ⟨fun e => absurd (Prod.ext_iff.mp e).2 (show (SemLoc.dma cc0_scoped4.sem : SemLoc sig) ≠ SemLoc.dma cc0_scoped2.sem by decide), Finset.mem_erase.mpr ⟨fun e => absurd (Prod.ext_iff.mp e).2 (show (SemLoc.dma cc0_scoped4.sem : SemLoc sig) ≠ SemLoc.dma cc0_scoped1.sem by decide), Finset.mem_erase.mpr ⟨fun e => absurd (Prod.ext_iff.mp e).2 (show (SemLoc.dma cc0_scoped4.sem : SemLoc sig) ≠ SemLoc.dma cc0_scoped0.sem by decide), (mem_ownCells (g := ((V d (cV L) (jV L), .dma cc0_scoped4.sem) : GSem nD τ sig))).mpr ⟨rfl, by show (SemLoc.dma cc0_scoped4.sem : SemLoc sig).isScoped .scVector = true; decide⟩⟩⟩⟩⟩),
    SparseCore.bigSep_erase' (Finset.mem_erase.mpr ⟨fun e => absurd (Prod.ext_iff.mp e).2 (show (SemLoc.dma cc0_scoped5.sem : SemLoc sig) ≠ SemLoc.dma cc0_scoped4.sem by decide), Finset.mem_erase.mpr ⟨fun e => absurd (Prod.ext_iff.mp e).2 (show (SemLoc.dma cc0_scoped5.sem : SemLoc sig) ≠ SemLoc.dma cc0_scoped3.sem by decide), Finset.mem_erase.mpr ⟨fun e => absurd (Prod.ext_iff.mp e).2 (show (SemLoc.dma cc0_scoped5.sem : SemLoc sig) ≠ SemLoc.dma cc0_scoped2.sem by decide), Finset.mem_erase.mpr ⟨fun e => absurd (Prod.ext_iff.mp e).2 (show (SemLoc.dma cc0_scoped5.sem : SemLoc sig) ≠ SemLoc.dma cc0_scoped1.sem by decide), Finset.mem_erase.mpr ⟨fun e => absurd (Prod.ext_iff.mp e).2 (show (SemLoc.dma cc0_scoped5.sem : SemLoc sig) ≠ SemLoc.dma cc0_scoped0.sem by decide), (mem_ownCells (g := ((V d (cV L) (jV L), .dma cc0_scoped5.sem) : GSem nD τ sig))).mpr ⟨rfl, by show (SemLoc.dma cc0_scoped5.sem : SemLoc sig).isScoped .scVector = true; decide⟩⟩⟩⟩⟩⟩),
    SparseCore.bigSep_erase' (Finset.mem_erase.mpr ⟨fun e => absurd (Prod.ext_iff.mp e).2 (show (SemLoc.dma cc0_scoped6.sem : SemLoc sig) ≠ SemLoc.dma cc0_scoped5.sem by decide), Finset.mem_erase.mpr ⟨fun e => absurd (Prod.ext_iff.mp e).2 (show (SemLoc.dma cc0_scoped6.sem : SemLoc sig) ≠ SemLoc.dma cc0_scoped4.sem by decide), Finset.mem_erase.mpr ⟨fun e => absurd (Prod.ext_iff.mp e).2 (show (SemLoc.dma cc0_scoped6.sem : SemLoc sig) ≠ SemLoc.dma cc0_scoped3.sem by decide), Finset.mem_erase.mpr ⟨fun e => absurd (Prod.ext_iff.mp e).2 (show (SemLoc.dma cc0_scoped6.sem : SemLoc sig) ≠ SemLoc.dma cc0_scoped2.sem by decide), Finset.mem_erase.mpr ⟨fun e => absurd (Prod.ext_iff.mp e).2 (show (SemLoc.dma cc0_scoped6.sem : SemLoc sig) ≠ SemLoc.dma cc0_scoped1.sem by decide), Finset.mem_erase.mpr ⟨fun e => absurd (Prod.ext_iff.mp e).2 (show (SemLoc.dma cc0_scoped6.sem : SemLoc sig) ≠ SemLoc.dma cc0_scoped0.sem by decide), (mem_ownCells (g := ((V d (cV L) (jV L), .dma cc0_scoped6.sem) : GSem nD τ sig))).mpr ⟨rfl, by show (SemLoc.dma cc0_scoped6.sem : SemLoc sig).isScoped .scVector = true; decide⟩⟩⟩⟩⟩⟩⟩)]

abbrev bufRest : sProp 𝕄 := bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)) fun b => iprop(∃ f, ((d, b) : Loc nD τ sig) ↦{fullShare} f)

theorem ownBufs_task : (ownBufs (V d (cV L) (jV L)) : sProp 𝕄)
    = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f) ∗ bufRest d L) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩)]

theorem trips_val : Scf.trips k0_t1_loop.lb k0_t1_loop.ub k0_t1_loop.st = 196 := by decide

/-- The parameters fetched: the buffer holds the array. -/
theorem prm_lands (f : S80.Idx → F .f32) (prm : S80.Idx → F .f32) :
    (prmV).view.write (Elt F) f ((prmH).view.read (Elt F) prm) Finset.univ = prm := by
  refine (View.write_whole_univ _ _ _).trans ?_
  funext x
  exact (View.read_apply _ _).trans (cast_eq _ _)

/-- The bag's window fetched. -/
theorem bag_lands (f : S31360.Idx → BitVec 32) (bag : S1000000.Idx → BitVec 32) :
    (bagV).view.write (Elt F) f (((bagH).slice (Rect.unit (s := S1000000) (k0_off1 L) S31360.size (k0_off1_inb L)) (fun _ => rfl)).view.read (Elt F) bag) Finset.univ
      = at10 L bag := by
  refine (View.write_whole_univ _ _ _).trans ?_
  funext x
  refine ((View.read_apply _ _).trans (cast_eq _ _)).trans ?_
  unfold at10
  congr 1
  apply ix_ext
  rw [co_ix]
  show k0_off1 L 0 + 1 * (co x).val = 10 * base L + (co x).val
  rw [k0_off1_eq]
  show 10 * base L + 1 * (co x).val = _
  omega

/-- Sixteen lanes loaded from the parameters. -/
theorem prm_load (prm : S80.Idx → F .f32) (o : Nat) (inb : ∀ a, (![o] : Fin 1 → Nat) a + S16.size a ≤ S80.size a) (h : o + 16 ≤ 80) (l : S16.Idx) :
    (prmV).view.readAt (Elt F) (Rect.unit (s := S80) ![o] S16.size inb).toLoadRect prm l
      = prm (ix ⟨o + (co l).val, by have := (co l).isLt; omega⟩) := by
  show prm _ = prm _
  congr 1
  apply ix_ext
  rw [co_ix]
  show o + 1 * (co l).val = o + (co l).val
  omega

theorem focus_admitted (w : S3136.Idx → BitVec 32) (hw : ∀ x, w x = at1 L gFocus x) :
    ((focusH).slice (Rect.unit (s := S100000) (k0_off5 L) S3136.size (k0_off5_inb L)) (fun _ => rfl)).view.Admitted (Elt F) (fun i => some (gFocus i)) w Finset.univ := by
  intro x _ u hu
  rw [View.read_apply] at hu
  have hu' : some (gFocus _) = some u := hu
  rw [← Option.some.inj hu', hw x]
  unfold at1
  congr 1
  apply ix_ext
  rw [co_ix]
  show base L + (co x).val = k0_off5 L 0 + 1 * (co x).val
  rw [k0_off5_eq]
  show base L + (co x).val = base L + 1 * (co x).val
  omega

theorem focus_set : ((focusH).slice (Rect.unit (s := S100000) (k0_off5 L) S3136.size (k0_off5_inb L)) (fun _ => rfl)).view.set = (win L).1 := by
  show ((View.whole _).slice _).set = _
  rw [View.set_slice]
  exact Finset.map_refl

theorem elem_admitted (bag : S1000000.Idx → BitVec 32) (w : S3136.Idx → BitVec 32) (hw : ∀ x, w x = at1 L (gElem bag) x) :
    ((elemH).slice (Rect.unit (s := S100000) (k0_off5 L) S3136.size (k0_off5_inb L)) (fun _ => rfl)).view.Admitted (Elt F) (fun i => some ((gElem bag) i)) w Finset.univ := by
  intro x _ u hu
  rw [View.read_apply] at hu
  have hu' : some ((gElem bag) _) = some u := hu
  rw [← Option.some.inj hu', hw x]
  unfold at1
  congr 1
  apply ix_ext
  rw [co_ix]
  show base L + (co x).val = k0_off5 L 0 + 1 * (co x).val
  rw [k0_off5_eq]
  show base L + (co x).val = base L + 1 * (co x).val
  omega

theorem elem_set : ((elemH).slice (Rect.unit (s := S100000) (k0_off5 L) S3136.size (k0_off5_inb L)) (fun _ => rfl)).view.set = (win L).1 := by
  show ((View.whole _).slice _).set = _
  rw [View.set_slice]
  exact Finset.map_refl

theorem dist_admitted (prm : S80.Idx → F .f32) (w : S3136.Idx → F .f32) (hw : ∀ x, w x = at1 L (gDist prm) x) :
    ((distH).slice (Rect.unit (s := S100000) (k0_off5 L) S3136.size (k0_off5_inb L)) (fun _ => rfl)).view.Admitted (Elt F) (fun i => some ((gDist prm) i)) w Finset.univ := by
  intro x _ u hu
  rw [View.read_apply] at hu
  have hu' : some ((gDist prm) _) = some u := hu
  rw [← Option.some.inj hu', hw x]
  unfold at1
  congr 1
  apply ix_ext
  rw [co_ix]
  show base L + (co x).val = k0_off5 L 0 + 1 * (co x).val
  rw [k0_off5_eq]
  show base L + (co x).val = base L + 1 * (co x).val
  omega

theorem dist_set : ((distH).slice (Rect.unit (s := S100000) (k0_off5 L) S3136.size (k0_off5_inb L)) (fun _ => rfl)).view.set = (win L).1 := by
  show ((View.whole _).slice _).set = _
  rw [View.set_slice]
  exact Finset.map_refl

theorem orient_admitted (prm : S80.Idx → F .f32) (w : S9408.Idx → F .f32) (hw : ∀ x, w x = at3 L (gOrient prm) x) :
    ((orientH).slice (Rect.unit (s := S300000) (k0_off6 L) S9408.size (k0_off6_inb L)) (fun _ => rfl)).view.Admitted (Elt F) (fun i => some ((gOrient prm) i)) w Finset.univ := by
  intro x _ u hu
  rw [View.read_apply] at hu
  have hu' : some ((gOrient prm) _) = some u := hu
  rw [← Option.some.inj hu', hw x]
  unfold at3
  congr 1
  apply ix_ext
  rw [co_ix]
  show 3 * base L + (co x).val = k0_off6 L 0 + 1 * (co x).val
  rw [k0_off6_eq]
  show 3 * base L + (co x).val = 3 * base L + 1 * (co x).val
  omega

theorem orient_set : ((orientH).slice (Rect.unit (s := S300000) (k0_off6 L) S9408.size (k0_off6_inb L)) (fun _ => rfl)).view.set = (win L).2 := by
  show ((View.whole _).slice _).set = _
  rw [View.set_slice]
  exact Finset.map_refl

theorem logp_admitted (prm : S80.Idx → F .f32) (w : S3136.Idx → F .f32) (hw : ∀ x, w x = at1 L (gLogp prm) x) :
    ((logpH).slice (Rect.unit (s := S100000) (k0_off5 L) S3136.size (k0_off5_inb L)) (fun _ => rfl)).view.Admitted (Elt F) (fun i => some ((gLogp prm) i)) w Finset.univ := by
  intro x _ u hu
  rw [View.read_apply] at hu
  have hu' : some ((gLogp prm) _) = some u := hu
  rw [← Option.some.inj hu', hw x]
  unfold at1
  congr 1
  apply ix_ext
  rw [co_ix]
  show base L + (co x).val = k0_off5 L 0 + 1 * (co x).val
  rw [k0_off5_eq]
  show base L + (co x).val = base L + 1 * (co x).val
  omega

theorem logp_set : ((logpH).slice (Rect.unit (s := S100000) (k0_off5 L) S3136.size (k0_off5_inb L)) (fun _ => rfl)).view.set = (win L).1 := by
  show ((View.whole _).slice _).set = _
  rw [View.set_slice]
  exact Finset.map_refl

end Task

end Cert.Proof.KernelIdealRun
-- ==== Proof.KernelIdealTile.lean ====
module
public import proofs.«01_k».proof.Proof.KernelIdealArrays
@[expose] public section

/-! # A task of the kernel

A task fetches the parameters and its window of the bag, runs the loop, and copies its five buffers out to its windows of
the result arrays, which are in write mode. -/

noncomputable section

namespace Cert.Proof.KernelIdealRun

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ (UU F) ℕ

section Task

variable [FloatOps F] [Named F] (d : Dev nD) (L : grid0.Coords)

set_option maxHeartbeats 800000 in
/-- **A task**: from a share of the arrays, to that share with the task's windows known written. -/
theorem tile_body (hF : (K (F := F)).Facts) (X : Ins F) (q : PosShare TreeShare) (O : CellTallies nD τ sig (HIx 1)) (W : Waits sig (HIx 1))
    (hO : ∀ g, O g none = 0) :
    iprop(levAts (K (F := F)).L (K (F := F)).lev ∗ wm ∗ res d X q (∅, ∅)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_call L prmH (Memref.isWhole_whole _) bagH (Memref.isWhole_whole _) focusH (Memref.isWhole_whole _) elemH (Memref.isWhole_whole _)
            distH (Memref.isWhole_whole _) orientH (Memref.isWhole_whole _) logpH (Memref.isWhole_whole _) bagV (Memref.isWhole_whole _)
            focusV (Memref.isWhole_whole _) elemV (Memref.isWhole_whole _) distV (Memref.isWhole_whole _) orientV (Memref.isWhole_whole _)
            logpV (Memref.isWhole_whole _) prmV (Memref.isWhole_whole _) cc0_scoped0 cc0_scoped1 cc0_scoped2 cc0_scoped3 cc0_scoped4 cc0_scoped5 cc0_scoped6)
          fun _ => iprop(res d X q (win L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_call_eq_skeleton]; unfold cc0_sc_call_skel
  simp only [k0_part3_eq_skeleton]; unfold k0_part3_skel
  simp only [Prog.lift, Prog.bind_op, Prog.bind_ret, Prog.pure_eq_ret, Prog.bind_assoc]
  rw [(K (F := F)).scopedBufs_V hF d (cV L) (jV L), SparseCore.Cfg.scopedSems0_V (Val := Elt F) d (cV L) (jV L), ownSems0_task, ownBufs_task]
  unfold res
  iintro ⟨#Hlv, #Hwm, ⟨Hprm, Hbag, Wf, We, Wd, Wo, Wl⟩, ⟨⟨%bb, Bb⟩, ⟨%bf, Bf⟩, ⟨%be, Be⟩, ⟨%bd, Bd⟩, ⟨%bo, Bo⟩, ⟨%bl, Bl⟩, ⟨%bp, Bp⟩, Brest⟩,
    ⟨S0, S1, S2, S3, S4, S5, S6, Srest⟩, HO⟩
  ihave #Hmw := ((K (F := F)).mayWaits_none (thr := V d (cV L) (jV L)) hO) $$ Hlv
  iapply (wp_copyIn (V d (cV L) (jV L)) (dst := prmV) (q := q) (fs := X.prm) (fd := bp) (O := O) (W := W) (by decide)) $$ [Hprm Bp S0 HO]
  · isplitl [Hprm]; · iexact Hprm
    isplitl [Bp]; · iexact Bp
    isplitl [S0]; · iexact S0
    isplitl [HO]; · iexact HO
    iapply (Transfers.MayWaits.elim (SemLoc.dma cc0_scoped0.sem)); iexact Hmw
  iintro ⟨Hprm, Bp, S0, HO⟩
  rw [prm_lands]
  iapply (wp_copyIn (V d (cV L) (jV L)) (dst := bagV) (q := q) (fs := X.bag) (fd := bb) (O := O) (W := insert (SemLoc.dma cc0_scoped0.sem, none) W) (by decide)) $$ [Hbag Bb S1 HO]
  · isplitl [Hbag]; · iexact Hbag
    isplitl [Bb]; · iexact Bb
    isplitl [S1]; · iexact S1
    isplitl [HO]; · iexact HO
    iapply (Transfers.MayWaits.elim (SemLoc.dma cc0_scoped1.sem)); iexact Hmw
  iintro ⟨Hbag, Bb, S1, HO⟩
  rw [bag_lands]
  iapply (wp_load 𝒱₀ (thr d L) none Set.univ (m := prmV) (S := Finset.univ) (Finset.subset_univ _)) $$ Bp; iintro Bp
  iapply (wp_load 𝒱₀ (thr d L) none Set.univ (m := prmV) (S := Finset.univ) (Finset.subset_univ _)) $$ Bp; iintro Bp
  iapply (wp_load 𝒱₀ (thr d L) none Set.univ (m := prmV) (S := Finset.univ) (Finset.subset_univ _)) $$ Bp; iintro Bp
  iapply (wp_load 𝒱₀ (thr d L) none Set.univ (m := prmV) (S := Finset.univ) (Finset.subset_univ _)) $$ Bp; iintro Bp
  iapply (wp_load 𝒱₀ (thr d L) none Set.univ (m := prmV) (S := Finset.univ) (Finset.subset_univ _)) $$ Bp; iintro Bp
  sl_for (inv d L X.prm X.bag) $$ [Bb Bf Be Bd Bo Bl]
  case region =>
    intro t _
    exact trip d L X.prm X.bag _ _ _ _ _ (fun l => prm_load X.prm 32 inb_S80_S16_32 (by decide) l) (fun l => prm_load X.prm 48 inb_S80_S16_48 (by decide) l)
      (fun l => prm_load X.prm 64 inb_S80_S16_64 (by decide) l)
      (fun l => congrArg (fun v => k0_pay15 v l) (funext fun l => (prm_load X.prm 0 inb_S80_S16_0 (by decide) l).trans (congrArg X.prm (ix_ext (by rw [co_ix, co_ix]; exact Nat.zero_add _)))))
      (fun l => congrArg (fun v => k0_pay16 v l) (funext fun l => prm_load X.prm 16 inb_S80_S16_16 (by decide) l)) t
  · unfold inv
    isplitl [Bb]; · iexact Bb
    isplitl [Bf]
    · iexists bf; isplitr
      · ipureintro; intro x hx; exact absurd hx (by omega)
      · iexact Bf
    isplitl [Be]
    · iexists be; isplitr
      · ipureintro; intro x hx; exact absurd hx (by omega)
      · iexact Be
    isplitl [Bd]
    · iexists bd; isplitr
      · ipureintro; intro x hx; exact absurd hx (by omega)
      · iexact Bd
    isplitl [Bo]
    · iexists bo; isplitr
      · ipureintro; intro x hx; exact absurd hx (by omega)
      · iexact Bo
    iexists bl; isplitr
    · ipureintro; intro x hx; exact absurd hx (by omega)
    · iexact Bl
  iintro %_ HI
  unfold inv
  icases HI with ⟨Bb, ⟨%ff, %hf, Bf⟩, ⟨%fe, %he, Be⟩, ⟨%fd, %hd, Bd⟩, ⟨%fo, %ho, Bo⟩, ⟨%fl, %hl, Bl⟩⟩
  rw [trips_val] at hf he hd ho hl
  unfold tile_body.sl.prog.cont_1
  iapply (wp_copyOutWhole (V d (cV L) (jV L)) (src := focusV) (dst := (focusH).slice (Rect.unit (s := S100000) (k0_off5 L) S3136.size (k0_off5_inb L)) (fun _ => rfl)) (sem := cc0_scoped2.sem) (q := fullShare) (fs := ff) (qd := q) (fd := X.focus) (g := gFocus) (M := ∅) (O := O)
      (W := insert (SemLoc.dma cc0_scoped1.sem, none) (insert (SemLoc.dma cc0_scoped0.sem, none) W)) (by decide)
      (focus_admitted L (((focusV).view.read (Elt F) ff)) fun x => hf x (by have := (co x).isLt; omega)) (win L).1 (focus_set L)) $$ [Bf Wf S2 HO]
  · isplitl [Bf]; · iexact Bf
    isplitr; · iexact Hwm
    isplitl [Wf]; · iexact Wf
    isplitl [S2]; · iexact S2
    isplitl [HO]; · iexact HO
    iapply (Transfers.MayWaits.elim (SemLoc.dma cc0_scoped2.sem)); iexact Hmw
  iintro ⟨Bf, Wf, S2, HO⟩
  rw [Finset.empty_union]
  iapply (wp_copyOutWhole (V d (cV L) (jV L)) (src := elemV) (dst := (elemH).slice (Rect.unit (s := S100000) (k0_off5 L) S3136.size (k0_off5_inb L)) (fun _ => rfl)) (sem := cc0_scoped3.sem) (q := fullShare) (fs := fe) (qd := q) (fd := X.elem) (g := (gElem X.bag)) (M := ∅) (O := O)
      (W := insert (SemLoc.dma cc0_scoped2.sem, none) (insert (SemLoc.dma cc0_scoped1.sem, none) (insert (SemLoc.dma cc0_scoped0.sem, none) W))) (by decide)
      (elem_admitted L X.bag (((elemV).view.read (Elt F) fe)) fun x => he x (by have := (co x).isLt; omega)) (win L).1 (elem_set L)) $$ [Be We S3 HO]
  · isplitl [Be]; · iexact Be
    isplitr; · iexact Hwm
    isplitl [We]; · iexact We
    isplitl [S3]; · iexact S3
    isplitl [HO]; · iexact HO
    iapply (Transfers.MayWaits.elim (SemLoc.dma cc0_scoped3.sem)); iexact Hmw
  iintro ⟨Be, We, S3, HO⟩
  rw [Finset.empty_union]
  iapply (wp_copyOutWhole (V d (cV L) (jV L)) (src := distV) (dst := (distH).slice (Rect.unit (s := S100000) (k0_off5 L) S3136.size (k0_off5_inb L)) (fun _ => rfl)) (sem := cc0_scoped4.sem) (q := fullShare) (fs := fd) (qd := q) (fd := X.dist) (g := (gDist X.prm)) (M := ∅) (O := O)
      (W := insert (SemLoc.dma cc0_scoped3.sem, none) (insert (SemLoc.dma cc0_scoped2.sem, none) (insert (SemLoc.dma cc0_scoped1.sem, none) (insert (SemLoc.dma cc0_scoped0.sem, none) W)))) (by decide)
      (dist_admitted L X.prm (((distV).view.read (Elt F) fd)) fun x => hd x (by have := (co x).isLt; omega)) (win L).1 (dist_set L)) $$ [Bd Wd S4 HO]
  · isplitl [Bd]; · iexact Bd
    isplitr; · iexact Hwm
    isplitl [Wd]; · iexact Wd
    isplitl [S4]; · iexact S4
    isplitl [HO]; · iexact HO
    iapply (Transfers.MayWaits.elim (SemLoc.dma cc0_scoped4.sem)); iexact Hmw
  iintro ⟨Bd, Wd, S4, HO⟩
  rw [Finset.empty_union]
  iapply (wp_copyOutWhole (V d (cV L) (jV L)) (src := orientV) (dst := (orientH).slice (Rect.unit (s := S300000) (k0_off6 L) S9408.size (k0_off6_inb L)) (fun _ => rfl)) (sem := cc0_scoped5.sem) (q := fullShare) (fs := fo) (qd := q) (fd := X.orient) (g := (gOrient X.prm)) (M := ∅) (O := O)
      (W := insert (SemLoc.dma cc0_scoped4.sem, none) (insert (SemLoc.dma cc0_scoped3.sem, none) (insert (SemLoc.dma cc0_scoped2.sem, none) (insert (SemLoc.dma cc0_scoped1.sem, none) (insert (SemLoc.dma cc0_scoped0.sem, none) W))))) (by decide)
      (orient_admitted L X.prm (((orientV).view.read (Elt F) fo)) fun x => ho x (by have := (co x).isLt; omega)) (win L).2 (orient_set L)) $$ [Bo Wo S5 HO]
  · isplitl [Bo]; · iexact Bo
    isplitr; · iexact Hwm
    isplitl [Wo]; · iexact Wo
    isplitl [S5]; · iexact S5
    isplitl [HO]; · iexact HO
    iapply (Transfers.MayWaits.elim (SemLoc.dma cc0_scoped5.sem)); iexact Hmw
  iintro ⟨Bo, Wo, S5, HO⟩
  rw [Finset.empty_union]
  iapply (wp_copyOutWhole (V d (cV L) (jV L)) (src := logpV) (dst := (logpH).slice (Rect.unit (s := S100000) (k0_off5 L) S3136.size (k0_off5_inb L)) (fun _ => rfl)) (sem := cc0_scoped6.sem) (q := fullShare) (fs := fl) (qd := q) (fd := X.logp) (g := (gLogp X.prm)) (M := ∅) (O := O)
      (W := insert (SemLoc.dma cc0_scoped5.sem, none) (insert (SemLoc.dma cc0_scoped4.sem, none) (insert (SemLoc.dma cc0_scoped3.sem, none) (insert (SemLoc.dma cc0_scoped2.sem, none) (insert (SemLoc.dma cc0_scoped1.sem, none) (insert (SemLoc.dma cc0_scoped0.sem, none) W)))))) (by decide)
      (logp_admitted L X.prm (((logpV).view.read (Elt F) fl)) fun x => hl x (by have := (co x).isLt; omega)) (win L).1 (logp_set L)) $$ [Bl Wl S6 HO]
  · isplitl [Bl]; · iexact Bl
    isplitr; · iexact Hwm
    isplitl [Wl]; · iexact Wl
    isplitl [S6]; · iexact S6
    isplitl [HO]; · iexact HO
    iapply (Transfers.MayWaits.elim (SemLoc.dma cc0_scoped6.sem)); iexact Hmw
  iintro ⟨Bl, Wl, S6, HO⟩
  rw [Finset.empty_union]
  rw [wp_ret]; imodintro
  isplitl [Hprm Hbag Wf We Wd Wo Wl]
  · isplitl [Hprm]; · iexact Hprm
    isplitl [Hbag]; · iexact Hbag
    isplitl [Wf]; · iexact Wf
    isplitl [We]; · iexact We
    isplitl [Wd]; · iexact Wd
    isplitl [Wo]; · iexact Wo
    iexact Wl
  isplitl [Bb Bf Be Bd Bo Bl Bp Brest]
  · isplitl [Bb]; · iexists _; iexact Bb
    isplitl [Bf]; · iexists _; iexact Bf
    isplitl [Be]; · iexists _; iexact Be
    isplitl [Bd]; · iexists _; iexact Bd
    isplitl [Bo]; · iexists _; iexact Bo
    isplitl [Bl]; · iexists _; iexact Bl
    isplitl [Bp]; · iexists _; iexact Bp
    iexact Brest
  isplitl [S0 S1 S2 S3 S4 S5 S6 Srest]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact Srest
  iexists _; isplitr; rotate_left
  · iexact HO
  ipureintro
  intro p hp
  simp only [Finset.mem_insert] at hp
  rcases hp with rfl | rfl | rfl | rfl | rfl | rfl | rfl | hp
  all_goals first | exact .inr rfl | exact .inl hp

end Task

end Cert.Proof.KernelIdealRun
-- ==== Proof.KernelIdealShares.lean ====
module
public import proofs.«01_k».proof.Proof.KernelIdealArrays
public import Idealize.ShloMosaic.Lib.StableHlo.Run
@[expose] public section

/-! # The arrays through the launch: shared among the tasks, and put in and out of write mode -/

noncomputable section

namespace Cert.Proof.KernelIdealRun

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ (UU F) ℕ

/-! ## Splitting and joining a share -/

section Shares

variable [FloatOps F] [Named F] (d : Dev nD) (X : Ins F)

theorem res_split (q : PosShare TreeShare) : (res d X q ⊥ : sProp 𝕄) ⊢ iprop(res d X q.left ⊥ ∗ res d X q.right ⊥) := by
  unfold res
  iintro ⟨Hp, Hb, Hf, He, Hd, Ho, Hl⟩
  ihave Hp := pts_split.1 $$ Hp
  icases Hp with ⟨Hp, Hp'⟩
  ihave Hb := pts_split.1 $$ Hb
  icases Hb with ⟨Hb, Hb'⟩
  ihave Hf := wb_split $$ Hf
  icases Hf with ⟨Hf, Hf'⟩
  ihave He := wb_split $$ He
  icases He with ⟨He, He'⟩
  ihave Hd := wb_split $$ Hd
  icases Hd with ⟨Hd, Hd'⟩
  ihave Ho := wb_split $$ Ho
  icases Ho with ⟨Ho, Ho'⟩
  ihave Hl := wb_split $$ Hl
  icases Hl with ⟨Hl, Hl'⟩
  isplitl [Hp Hb Hf He Hd Ho Hl]
  · isplitl [Hp]; · iexact Hp
    isplitl [Hb]; · iexact Hb
    isplitl [Hf]; · iexact Hf
    isplitl [He]; · iexact He
    isplitl [Hd]; · iexact Hd
    isplitl [Ho]; · iexact Ho
    iexact Hl
  · isplitl [Hp']; · iexact Hp'
    isplitl [Hb']; · iexact Hb'
    isplitl [Hf']; · iexact Hf'
    isplitl [He']; · iexact He'
    isplitl [Hd']; · iexact Hd'
    isplitl [Ho']; · iexact Ho'
    iexact Hl'

theorem res_join (q : PosShare TreeShare) (a b : Marks) : iprop(res d X q.left a ∗ res d X q.right b) ⊢ (res d X q (a ⊔ b) : sProp 𝕄) := by
  unfold res
  iintro ⟨⟨Hp, Hb, Hf, He, Hd, Ho, Hl⟩, ⟨Hp', Hb', Hf', He', Hd', Ho', Hl'⟩⟩
  isplitl [Hp Hp']
  · iapply pts_split.2; isplitl [Hp]; · iexact Hp
    iexact Hp'
  isplitl [Hb Hb']
  · iapply pts_split.2; isplitl [Hb]; · iexact Hb
    iexact Hb'
  isplitl [Hf Hf']
  · iapply wb_join; isplitl [Hf]; · iexact Hf
    iexact Hf'
  isplitl [He He']
  · iapply wb_join; isplitl [He]; · iexact He
    iexact He'
  isplitl [Hd Hd']
  · iapply wb_join; isplitl [Hd]; · iexact Hd
    iexact Hd'
  isplitl [Ho Ho']
  · iapply wb_join; isplitl [Ho]; · iexact Ho
    iexact Ho'
  iapply wb_join; isplitl [Hl]; · iexact Hl
  iexact Hl'

/-! ## Into write mode and out of it -/

/-- The seven arrays held whole: the five results with the values `f`. -/
def pts (f : Ins F) : sProp 𝕄 :=
  iprop((prmL d ↦{fullShare} f.prm) ∗ (bagL d ↦{fullShare} f.bag) ∗ (focusL d ↦{fullShare} f.focus) ∗ (elemL d ↦{fullShare} f.elem)
    ∗ (distL d ↦{fullShare} f.dist) ∗ (orientL d ↦{fullShare} f.orient) ∗ (logpL d ↦{fullShare} f.logp))

/-- What the tasks leave: the results at their values. -/
def Ins.done (X : Ins F) : Ins F where
  prm := X.prm
  bag := X.bag
  focus := gFocus
  elem := gElem X.bag
  dist := gDist X.prm
  orient := gOrient X.prm
  logp := gLogp X.prm

theorem wb_in {ℓ : Loc nD τ sig} {f g : Buf (Elt F) ℓ} :
    iprop(wm ∗ ℓ ↦{fullShare} f) ⊢ (iprop(|={Set.univ}=> wb ℓ fullShare f g ∅) : sProp 𝕄) := by
  unfold wm
  iintro ⟨⟨%ι, #Hwm⟩, H⟩
  iapply (pointsTo_castIn (emb := wmE (F := F)) (ιwm := ι) (E := Set.univ) (I := Finset.univ) (f := f) (fun i => some (g i)) (Set.mem_univ _))
  isplitr; · iexact Hwm
  iexact H

theorem wb_out {ℓ : Loc nD τ sig} {f g : Buf (Elt F) ℓ} :
    iprop(wm ∗ wb ℓ fullShare f g Finset.univ) ⊢ (iprop(|={Set.univ}=> ℓ ↦{fullShare} g) : sProp 𝕄) := by
  unfold wm
  iintro ⟨⟨%ι, #Hwm⟩, H⟩
  have h := willBeTo_castOut_some (Ix := HIx 1) (Lvl := ℕ) (emb := wmE (F := F)) (ιwm := ι) (E := Set.univ) (ℓ := ℓ) (I := Finset.univ) (f := f) (g := g) (W := Finset.univ) (Set.mem_univ _)
  rw [Finset.piecewise_univ] at h
  iapply h
  isplitr; · iexact Hwm
  iexact H

theorem res_in : iprop(wm ∗ pts d X) ⊢ (iprop(|={Set.univ}=> res d X fullShare ⊥) : sProp 𝕄) := by
  unfold pts res
  iintro ⟨#Hwm, Hp, Hb, Hf, He, Hd, Ho, Hl⟩
  imod (wb_in (ℓ := focusL d) (f := X.focus) (g := gFocus)) $$ [Hf] with Hf
  · isplitr; · iexact Hwm
    iexact Hf
  imod (wb_in (ℓ := elemL d) (f := X.elem) (g := gElem X.bag)) $$ [He] with He
  · isplitr; · iexact Hwm
    iexact He
  imod (wb_in (ℓ := distL d) (f := X.dist) (g := gDist X.prm)) $$ [Hd] with Hd
  · isplitr; · iexact Hwm
    iexact Hd
  imod (wb_in (ℓ := orientL d) (f := X.orient) (g := gOrient X.prm)) $$ [Ho] with Ho
  · isplitr; · iexact Hwm
    iexact Ho
  imod (wb_in (ℓ := logpL d) (f := X.logp) (g := gLogp X.prm)) $$ [Hl] with Hl
  · isplitr; · iexact Hwm
    iexact Hl
  imodintro
  isplitl [Hp]; · iexact Hp
  isplitl [Hb]; · iexact Hb
  isplitl [Hf]; · iexact Hf
  isplitl [He]; · iexact He
  isplitl [Hd]; · iexact Hd
  isplitl [Ho]; · iexact Ho
  iexact Hl

theorem res_out : iprop(wm ∗ res d X fullShare (Finset.univ, Finset.univ)) ⊢ (iprop(|={Set.univ}=> pts d X.done) : sProp 𝕄) := by
  unfold pts res
  iintro ⟨#Hwm, Hp, Hb, Hf, He, Hd, Ho, Hl⟩
  imod wb_out $$ [Hf] with Hf
  · isplitr; · iexact Hwm
    iexact Hf
  imod wb_out $$ [He] with He
  · isplitr; · iexact Hwm
    iexact He
  imod wb_out $$ [Hd] with Hd
  · isplitr; · iexact Hwm
    iexact Hd
  imod wb_out $$ [Ho] with Ho
  · isplitr; · iexact Hwm
    iexact Ho
  imod wb_out $$ [Hl] with Hl
  · isplitr; · iexact Hwm
    iexact Hl
  imodintro
  isplitl [Hp]; · iexact Hp
  isplitl [Hb]; · iexact Hb
  isplitl [Hf]; · iexact Hf
  isplitl [He]; · iexact He
  isplitl [Hd]; · iexact Hd
  isplitl [Ho]; · iexact Ho
  iexact Hl

end Shares

/-! ## The tasks' windows cover the arrays -/

/-- The coordinates of task `s` of SparseCore `c`. -/
def coordsV (c : Fin 2) (s : Fin 16) : grid0.Coords := fun
  | 0 => c
  | 1 => s
  | ⟨_ + 2, h⟩ => absurd h (Nat.not_lt.2 (Nat.le_add_left _ _))

theorem off5_coords (c : Fin 2) (s : Fin 16) : k0_off5 (coordsV c s) 0 = min (3136 * (2 * s.val + c.val)) 96864 := by
  revert c s; decide

theorem off6_coords (c : Fin 2) (s : Fin 16) : k0_off6 (coordsV c s) 0 = 3 * min (3136 * (2 * s.val + c.val)) 96864 := by
  revert c s; decide

theorem cover : (Finset.univ.sup fun c : Fin 2 => Finset.univ.sup fun s : Fin 16 => win (coordsV c s)) = ((Finset.univ, Finset.univ) : Marks) := by
  apply le_antisymm le_top
  refine ⟨fun x _ => ?_, fun x _ => ?_⟩
  · have hx : (x 0).val < 100000 := (x 0).isLt
    let c : Fin 2 := ⟨(x 0).val / 3136 % 2, Nat.mod_lt _ (by decide)⟩
    let s : Fin 16 := ⟨(x 0).val / 3136 / 2, by omega⟩
    have h1 : win (coordsV c s) ≤ (Finset.univ.sup fun c : Fin 2 => Finset.univ.sup fun s : Fin 16 => win (coordsV c s)) :=
      (Finset.le_sup (f := fun s : Fin 16 => win (coordsV c s)) (Finset.mem_univ s)).trans
        (Finset.le_sup (f := fun c : Fin 2 => Finset.univ.sup fun s : Fin 16 => win (coordsV c s)) (Finset.mem_univ c))
    refine h1.1 (Rect.mem_set_unit.2 fun a => ?_)
    have ha : a = 0 := Subsingleton.elim _ _
    subst ha
    have hb : (k0_off5 (coordsV c s) 0) = min (3136 * (2 * s.val + c.val)) 96864 := off5_coords c s
    rw [hb]
    show _ ≤ (x 0).val ∧ (x 0).val < _ + 3136
    have hcv : c.val = (x 0).val / 3136 % 2 := rfl
    have hsv : s.val = (x 0).val / 3136 / 2 := rfl
    rw [hcv, hsv]
    omega
  · have hx : (x 0).val < 300000 := (x 0).isLt
    let c : Fin 2 := ⟨(x 0).val / 9408 % 2, Nat.mod_lt _ (by decide)⟩
    let s : Fin 16 := ⟨(x 0).val / 9408 / 2, by omega⟩
    have h1 : win (coordsV c s) ≤ (Finset.univ.sup fun c : Fin 2 => Finset.univ.sup fun s : Fin 16 => win (coordsV c s)) :=
      (Finset.le_sup (f := fun s : Fin 16 => win (coordsV c s)) (Finset.mem_univ s)).trans
        (Finset.le_sup (f := fun c : Fin 2 => Finset.univ.sup fun s : Fin 16 => win (coordsV c s)) (Finset.mem_univ c))
    refine h1.2 (Rect.mem_set_unit.2 fun a => ?_)
    have ha : a = 0 := Subsingleton.elim _ _
    subst ha
    have hb : (k0_off6 (coordsV c s) 0) = 3 * min (3136 * (2 * s.val + c.val)) 96864 := off6_coords c s
    rw [hb]
    show _ ≤ (x 0).val ∧ (x 0).val < _ + 9408
    have hcv : c.val = (x 0).val / 9408 % 2 := rfl
    have hsv : s.val = (x 0).val / 9408 / 2 := rfl
    rw [hcv, hsv]
    omega

end Cert.Proof.KernelIdealRun
-- ==== Proof.KernelIdealLaunch.lean ====
module
public import proofs.«01_k».proof.Proof.KernelIdealTile
public import proofs.«01_k».proof.Proof.KernelIdealShares
public import Idealize.ShloMosaic.Lib.Pipeline.Frame
public import Idealize.ShloMosaic.Lib.StableHlo.Run
@[expose] public section

/-! # The kernel's whole run: the launch, the host's operations around it, and what the results hold -/

noncomputable section

namespace Cert.Proof.KernelIdealRun

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds (initOf)
open Idealize.ShloMosaic.Transfers (shareDrop shareTok)
open Idealize.ShloMosaic.StableHlo
open Idealize.ShloMosaic.Pipeline (ucRefs sub_ucRefs)
open Idealize.ShloMosaic.Tactic

variable {F : FTy → Type}

local notation "𝕄" => MT nD τ sig (HIx 1) (Elt F) ℕ (UU F) ℕ

section Launch

variable [FloatOps F] [Named F]

/-! ## The host's operations before the call and after it -/

def before : List (HloOp τ sig (Elt F)) :=
  [ reshape main_arg3 main_v0 (rfl : (.i32 : EltTy) = .i32) shapeCasts_S100000x10_S1000000,
    reshape main_arg4 main_v1 (rfl : (.f32 : EltTy) = .f32) shapeCasts_S1x1_S1,
    unary main_v1 main_v2 (broadcastInDim S16 ![0] bcast_S1_S16_0 : (⟨S1, .f32⟩ : BufTy).Contents (Elt F) → (⟨S16, .f32⟩ : BufTy).Contents (Elt F)),
    unary main_arg5 main_v3 (broadcastInDim S16 ![0] bcast_S1_S16_0 : (⟨S1, .f32⟩ : BufTy).Contents (Elt F) → (⟨S16, .f32⟩ : BufTy).Contents (Elt F)),
    reshape main_arg6 main_v4 (rfl : (.f32 : EltTy) = .f32) shapeCasts_S1x3_S3,
    reshape main_v4 main_v5 (rfl : (.f32 : EltTy) = .f32) shapeCasts_S3_S1x3,
    unary main_v5 main_v6 (broadcastInDim S16x3 ![0, 1] bcast_S1x3_S16x3_0_1 : (⟨S1x3, .f32⟩ : BufTy).Contents (Elt F) → (⟨S16x3, .f32⟩ : BufTy).Contents (Elt F)),
    reshape main_v6 main_v7 (rfl : (.f32 : EltTy) = .f32) shapeCasts_S16x3_S48,
    nary ![main_v2, main_v3, main_v7] main_v8 (fun u => (concatenate S80 0 [⟨S16, (u 0 : (⟨S16, .f32⟩ : BufTy).Contents (Elt F))⟩, ⟨S16, (u 1 : (⟨S16, .f32⟩ : BufTy).Contents (Elt F))⟩, ⟨S48, (u 2 : (⟨S48, .f32⟩ : BufTy).Contents (Elt F))⟩] concatenates_S16_S16_S48_S80_d0 : (⟨S80, .f32⟩ : BufTy).Contents (Elt F))) ]

def following : List (HloOp τ sig (Elt F)) :=
  [ reshape main_v9_2 main_v10 (rfl : (.f32 : EltTy) = .f32) shapeCasts_S100000_S100000x1,
    reshape main_v9_3 main_v11 (rfl : (.f32 : EltTy) = .f32) shapeCasts_S300000_S100000x3,
    reshape main_v9_4 main_v12 (rfl : (.f32 : EltTy) = .f32) shapeCasts_S100000_S100000x1 ]

theorem main_eq (d : Dev nD) : main (F := F) d = (seq before >>= fun _ => ((K (F := F)).run d 0 >>= fun _ => seq following)) := rfl

theorem before_sub : ∀ op ∈ (before : List (HloOp τ sig (Elt F))), op.bufs ⊆ ucRefs τ sig := by
  intro op h
  simp only [before, List.mem_cons, List.not_mem_nil, or_false] at h
  rcases h with rfl | rfl | rfl | rfl | rfl | rfl | rfl | rfl | rfl
  all_goals exact sub_ucRefs _ (by first | exact reshape_bufs_sub .. | exact unary_bufs_sub .. | exact nary_bufs_sub ..)

theorem following_sub : ∀ op ∈ (following : List (HloOp τ sig (Elt F))), op.bufs ⊆ ucRefs τ sig := by
  intro op h
  simp only [following, List.mem_cons, List.not_mem_nil, or_false] at h
  rcases h with rfl | rfl | rfl
  all_goals exact sub_ucRefs _ (by first | exact reshape_bufs_sub .. | exact unary_bufs_sub .. | exact nary_bufs_sub ..)

theorem before_fresh : ∀ op ∈ (before : List (HloOp τ sig (Elt F))), op.fresh = ∅ := by
  intro _ h; (repeat (cases h with | head => rfl | tail _ h => ?_)); exact nomatch h

theorem following_fresh : ∀ op ∈ (following : List (HloOp τ sig (Elt F))), op.fresh = ∅ := by
  intro _ h; (repeat (cases h with | head => rfl | tail _ h => ?_)); exact nomatch h

/-! ## The arrays' contents through the run -/

variable (m : (ℓ : Loc nD τ sig) → Buf (Elt F) ℓ)

abbrev prm' : DevRef τ sig := Proc.devRef .tc (main_v8 : Ref sig .tc)
abbrev bag' : DevRef τ sig := Proc.devRef .tc (main_v0 : Ref sig .tc)
abbrev focus' : DevRef τ sig := Proc.devRef .tc (main_v9_0 : Ref sig .tc)
abbrev elem' : DevRef τ sig := Proc.devRef .tc (main_v9_1 : Ref sig .tc)
abbrev dist' : DevRef τ sig := Proc.devRef .tc (main_v9_2 : Ref sig .tc)
abbrev orient' : DevRef τ sig := Proc.devRef .tc (main_v9_3 : Ref sig .tc)
abbrev logp' : DevRef τ sig := Proc.devRef .tc (main_v9_4 : Ref sig .tc)

/-- The call's arrays. -/
abbrev S7 : Finset (DevRef τ sig) := {prm', bag', focus', elem', dist', orient', logp'}

/-- Before the call. -/
def Vcall (d : Dev nD) : Valuation τ sig (Elt F) := after before (launchContents m d)

def insOf (W : Valuation τ sig (Elt F)) : Ins F where
  prm := W prm'
  bag := W bag'
  focus := W focus'
  elem := W elem'
  dist := W dist'
  orient := W orient'
  logp := W logp'

/-- What the tasks start from on device `d`. -/
abbrev X (d : Dev nD) : Ins F := insOf (Vcall m d)

/-- After the call. -/
def Vback (d : Dev nD) : Valuation τ sig (Elt F) :=
  Function.update (Function.update (Function.update (Function.update (Function.update (Vcall m d) focus' (gFocus : S100000.Idx → BitVec 32))
    elem' (gElem (X m d).bag : S100000.Idx → BitVec 32)) dist' (gDist (X m d).prm : S100000.Idx → F .f32))
    orient' (gOrient (X m d).prm : S300000.Idx → F .f32)) logp' (gLogp (X m d).prm : S100000.Idx → F .f32)

/-- At the end. -/
def Vend (d : Dev nD) : Valuation τ sig (Elt F) := after following (Vback m d)

theorem held_S7 (d : Dev nD) (W : Valuation τ sig (Elt F)) : (held (T d) S7 W : sProp 𝕄) = pts d (insOf W) := by
  unfold held S7 pts
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

theorem S7_sub : S7 ⊆ ucRefs τ sig := by decide

theorem Vback_prm (d : Dev nD) : Vback m d prm' = Vcall m d prm' := by
  unfold Vback; rw [Function.update_of_ne (show prm' ≠ logp' by decide), Function.update_of_ne (show prm' ≠ orient' by decide), Function.update_of_ne (show prm' ≠ dist' by decide), Function.update_of_ne (show prm' ≠ elem' by decide), Function.update_of_ne (show prm' ≠ focus' by decide)]

theorem Vback_bag (d : Dev nD) : Vback m d bag' = Vcall m d bag' := by
  unfold Vback; rw [Function.update_of_ne (show bag' ≠ logp' by decide), Function.update_of_ne (show bag' ≠ orient' by decide), Function.update_of_ne (show bag' ≠ dist' by decide), Function.update_of_ne (show bag' ≠ elem' by decide), Function.update_of_ne (show bag' ≠ focus' by decide)]

theorem Vback_focus (d : Dev nD) : Vback m d focus' = (gFocus : S100000.Idx → BitVec 32) := by
  unfold Vback; rw [Function.update_of_ne (show focus' ≠ logp' by decide), Function.update_of_ne (show focus' ≠ orient' by decide), Function.update_of_ne (show focus' ≠ dist' by decide), Function.update_of_ne (show focus' ≠ elem' by decide), Function.update_self]

theorem Vback_elem (d : Dev nD) : Vback m d elem' = (gElem (X m d).bag : S100000.Idx → BitVec 32) := by
  unfold Vback; rw [Function.update_of_ne (show elem' ≠ logp' by decide), Function.update_of_ne (show elem' ≠ orient' by decide), Function.update_of_ne (show elem' ≠ dist' by decide), Function.update_self]

theorem Vback_dist (d : Dev nD) : Vback m d dist' = (gDist (X m d).prm : S100000.Idx → F .f32) := by
  unfold Vback; rw [Function.update_of_ne (show dist' ≠ logp' by decide), Function.update_of_ne (show dist' ≠ orient' by decide), Function.update_self]

theorem Vback_orient (d : Dev nD) : Vback m d orient' = (gOrient (X m d).prm : S300000.Idx → F .f32) := by
  unfold Vback; rw [Function.update_of_ne (show orient' ≠ logp' by decide), Function.update_self]

theorem Vback_logp (d : Dev nD) : Vback m d logp' = (gLogp (X m d).prm : S100000.Idx → F .f32) := by
  unfold Vback; rw [Function.update_self]

theorem insOf_Vback (d : Dev nD) : insOf (Vback m d) = (X m d).done := by
  show Ins.mk (Vback m d prm') (Vback m d bag') (Vback m d focus') (Vback m d elem') (Vback m d dist') (Vback m d orient') (Vback m d logp') = _
  rw [Vback_prm, Vback_bag, Vback_focus, Vback_elem, Vback_dist, Vback_orient, Vback_logp]
  rfl

theorem Vback_of_not_mem (d : Dev nD) (b : DevRef τ sig) (h : b ∉ S7) : Vback m d b = Vcall m d b := by
  simp only [S7, Finset.mem_insert, Finset.mem_singleton, not_or] at h
  obtain ⟨_, _, h1, h2, h3, h4, h5⟩ := h
  unfold Vback
  rw [Function.update_of_ne h5, Function.update_of_ne h4, Function.update_of_ne h3, Function.update_of_ne h2, Function.update_of_ne h1]

/-! ## What the call hands over -/

theorem nCore_zero : (K (F := F)).nCore 0 = 2 := rfl
theorem nSub_zero : (K (F := F)).nSub 0 = 16 := rfl

/-- The windows of a SparseCore's tasks together. -/
abbrev winCore (c : Fin 2) : Marks := Finset.univ.sup fun i : Fin 16 => win (coordsV c i)

def P : (K (F := F)).Pay (nD := nD) (Val := Elt F) (Name := ℕ) (U := UU F) where
  st := fun q d c => match q with | 0 => res d (X m d) (shareTok fullShare 2 (Fin.cast nCore_zero c)) ⊥
  dn := fun q d c => match q with | 0 => res d (X m d) (shareTok fullShare 2 (Fin.cast nCore_zero c)) (winCore (Fin.cast nCore_zero c))
  go := fun q d c i => match q with
    | 0 => res d (X m d) (shareTok (shareTok fullShare 2 (Fin.cast nCore_zero c)) 16 (Fin.cast nSub_zero i)) ⊥
  td := fun q d c i => match q with
    | 0 => res d (X m d) (shareTok (shareTok fullShare 2 (Fin.cast nCore_zero c)) 16 (Fin.cast nSub_zero i)) (win (coordsV (Fin.cast nCore_zero c) (Fin.cast nSub_zero i)))
  x := fun _ _ => wm

instance res_storable (d : Dev nD) (Y : Ins F) (q : PosShare TreeShare) (W : Marks) : BI.Storable (upEmb : UEmb _ 𝕄) (res d Y q W) := by
  unfold res; infer_instance

instance P_storable : (P (F := F) m).IsStorable where
  st q d _ := match q with | 0 => res_storable _ _ _ _
  dn q d _ := match q with | 0 => res_storable _ _ _ _
  go q d _ i := match q with | 0 => res_storable _ _ _ _
  td q d _ i := match q with | 0 => res_storable _ _ _ _

/-! ## A task, as the launch asks for it -/

theorem defs₀_vector (c : Fin τ.nSC) (s : Fin τ.nSub) : defs₀ (F := F) (.scVector c s) 0 () = SparseCore.onTile hcore0 hsub0
    (fun c s => cc0_sc_call (coordsV c s) prmH (Memref.isWhole_whole _) bagH (Memref.isWhole_whole _) focusH (Memref.isWhole_whole _) elemH (Memref.isWhole_whole _)
            distH (Memref.isWhole_whole _) orientH (Memref.isWhole_whole _) logpH (Memref.isWhole_whole _) bagV (Memref.isWhole_whole _)
            focusV (Memref.isWhole_whole _) elemV (Memref.isWhole_whole _) distV (Memref.isWhole_whole _) orientV (Memref.isWhole_whole _)
            logpV (Memref.isWhole_whole _) prmV (Memref.isWhole_whole _) cc0_scoped0 cc0_scoped1 cc0_scoped2 cc0_scoped3 cc0_scoped4 cc0_scoped5 cc0_scoped6) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, ⟨%W', %hW', HO⟩⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) launch_facts (X m d)
    (shareTok (shareTok fullShare 2 (Fin.cast nCore_zero c)) 16 (Fin.cast nSub_zero i)) O W hO).trans (wp_mono frame _ _ fun _ => obl_post)

/-! ## A SparseCore's share, dealt to its tasks and gathered back -/

theorem bigSep_tasks (Φ : Fin 16 → sProp 𝕄) : (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) : (bigSep Finset.univ fun c : Fin ((K (F := F)).nCore 0) => Φ (Fin.cast nCore_zero c)) = bigSep Finset.univ Φ :=
  bigSep_congr fun _ _ => congrArg Φ (Fin.ext rfl)

theorem deal {n : ℕ} (d : Dev nD) (Y : Ins F) (q : PosShare TreeShare) (W : Fin n → Marks) :
    (res d Y q ⊥ : sProp 𝕄) ⊢ iprop((bigSep Finset.univ fun i : Fin n => res d Y (shareTok q n i) ⊥)
      ∗ ((bigSep Finset.univ fun i : Fin n => res d Y (shareTok q n i) (W i)) -∗ res d Y q (Finset.univ.sup W))) := by
  refine (toks_split (fun q W => res d Y q W) (res_split d Y) q n).trans ?_
  iintro ⟨Hd, Ht⟩
  isplitl [Ht]; · iexact Ht
  iintro Hw
  iapply (toks_join (fun q W => res d Y q W) (res_join d Y) q n W)
  isplitl [Hd]; · iexact Hd
  iexact Hw

theorem vecSplit : (K (F := F)).VecSplit' (P m) 0 := by
  intro d c
  show res d (X m d) (shareTok fullShare 2 (Fin.cast nCore_zero c)) ⊥ ⊢ |={Set.univ}=> iprop(
      (bigSep Finset.univ fun i : Fin ((K (F := F)).nSub 0) =>
        res d (X m d) (shareTok (shareTok fullShare 2 (Fin.cast nCore_zero c)) 16 (Fin.cast nSub_zero i)) ⊥)
      ∗ ((bigSep Finset.univ fun i : Fin ((K (F := F)).nSub 0) =>
          res d (X m d) (shareTok (shareTok fullShare 2 (Fin.cast nCore_zero c)) 16 (Fin.cast nSub_zero i)) (win (coordsV (Fin.cast nCore_zero c) (Fin.cast nSub_zero i))))
          -∗ res d (X m d) (shareTok fullShare 2 (Fin.cast nCore_zero c)) (winCore (Fin.cast nCore_zero c))))
  rw [bigSep_tasks (F := F) (fun i => res d (X m d) (shareTok (shareTok fullShare 2 (Fin.cast nCore_zero c)) 16 i) ⊥),
    bigSep_tasks (F := F) (fun i => res d (X m d) (shareTok (shareTok fullShare 2 (Fin.cast nCore_zero c)) 16 i) (win (coordsV (Fin.cast nCore_zero c) i)))]
  iintro H; imodintro
  iapply (deal d (X m d) (shareTok fullShare 2 (Fin.cast nCore_zero c)) (fun i => win (coordsV (Fin.cast nCore_zero c) i))); iexact H

/-! ## The launch element of the ghost state -/

def u₀ : UU F := (initOf (K (F := F)).hsCells (K (F := F)).hsToks, (wm₀ nD τ sig (Elt F), 1))

theorem ownU_split (a : UH) (b : WmRA nD τ sig (Elt F) × Counters) : (ownU ((a, b) : UU F) : sProp 𝕄) ⊢ iprop(BI.own (EH a) ∗ ownU ((1, b) : UU F)) :=
  BI.own_op_elim ((uEmb (nD := nD) (sig := sig) (Ix := HIx 1) (Val := Elt F) (Name := ℕ) (U := UU F) (Lvl := ℕ)).toEmb.op_of_mem
    (Prod.mk_mem_op (URA.mem_op_one a) (URA.mem_one_op b)))

theorem wm_all {I : Type} (s : Finset I) : (wm : sProp 𝕄) ⊢ bigSep s fun _ => wm (F := F) := by
  classical
  induction s using Finset.induction_on with
  | empty => rw [BI.bigSep_empty]; iintro -; iempintro
  | insert a s ha ih =>
    rw [SparseCore.bigSep_insert' ha]
    iintro #H
    isplitr; · iexact H
    iapply ih; iexact H

theorem hu₀ (ρ : Dev nD → PrngReg) : (ownU (u₀ (F := F)) : sProp 𝕄)
    ⊢ |={Set.univ}=> iprop(BI.own (EH (initOf (K (F := F)).hsCells (K (F := F)).hsToks)) ∗ (bigSep Finset.univ fun _ : Dev nD => wm (F := F))
        ∗ bigSep Finset.univ fun thr : Thread nD τ => bigSep Finset.univ fun q : Fin 1 => (P m).x q thr) := by
  unfold u₀
  iintro Hu
  ihave H := (ownU_split _ _) $$ Hu
  icases H with ⟨HH, HW⟩
  imod (show (ownU ((1, (wm₀ nD τ sig (Elt F), 1)) : UU F) : sProp 𝕄) ⊢ iprop(|={Set.univ}=> ∃ ιwm : ℕ, ⌜ιwm ∉ (∅ : Finset ℕ)⌝ ∧ wmInv (wmE (F := F)) ιwm) from
    wmInv_alloc (Ix := HIx 1) (Lvl := ℕ) (emb := wmE (F := F)) (E := Set.univ) (⟨m, fun _ => 0, ρ⟩ : MemSt nD τ sig (Elt F))) $$ HW with ⟨%ι, -, #Hwm⟩
  imodintro
  isplitl [HH]; · iexact HH
  ihave #Hw : wm (F := F) $$ []
  · unfold wm; iexists ι; iexact Hwm
  isplitr
  · iapply (wm_all Finset.univ); iexact Hw
  · unfold P; dsimp only
    rw [show (bigSep Finset.univ fun _ : Thread nD τ => bigSep Finset.univ fun _ : Fin 1 => (wm (F := F))) = bigSep Finset.univ fun _ : Thread nD τ => wm (F := F) from
      bigSep_congr fun _ _ => bigSep_univ_of_subsingleton (0 : Fin 1)]
    iapply (wm_all Finset.univ); iexact Hw

/-! ## @main on the TensorCore -/

variable (ρ : Dev nD → PrngReg)

abbrev FIN (d : Dev nD) : sProp 𝕄 := held (T d) (ucRefs τ sig) (Vend m d)

theorem st0_eq (d : Dev nD) : (bigSep Finset.univ fun c : Fin ((K (F := F)).nCore 0) => (P m).st 0 d c)
    = bigSep Finset.univ fun c : Fin 2 => res d (X m d) (shareTok fullShare 2 c) ⊥ :=
  bigSep_cores (fun c => res d (X m d) (shareTok fullShare 2 c) ⊥)

theorem dn0_eq (d : Dev nD) : (bigSep Finset.univ fun c : Fin ((K (F := F)).nCore 0) => (P m).dn 0 d c)
    = bigSep Finset.univ fun c : Fin 2 => res d (X m d) (shareTok fullShare 2 c) (winCore c) :=
  bigSep_cores (fun c => res d (X m d) (shareTok fullShare 2 c) (winCore c))

/-- The last three operations. -/
theorem wp_seq_end (d : Dev nD) {V : Valuation τ sig (Elt F)} {Q : PUnit → sProp 𝕄} :
    iprop(boundary (SparseCore.T d) ∗ (held (SparseCore.T d) (ucRefs τ sig) V : sProp 𝕄))
      ⊢ iprop(((boundary (SparseCore.T d) ∗ (held (SparseCore.T d) (ucRefs τ sig) (after following V) : sProp 𝕄)) -∗ Q ⟨⟩)
        -∗ wp frame (wpE ((K (F := F)).defs (D (F := F))) 𝒱 (SparseCore.T d) none) Set.univ (seq following) Q) := by
  have h := wp_seq (defs := (K (F := F)).defs (D (F := F))) 𝒱 none Set.univ d (ucRefs τ sig) (fun u => Pure.pure u) following following_sub following_fresh V (K := Q)
  rw [bind_pure] at h
  refine h.trans ?_
  iintro Hw Hk
  iapply Hw
  iintro H
  rw [wp_pure]; imodintro
  iapply Hk; iexact H

theorem hmain (κ : GSem nD τ sig → ℕ) (d : Dev nD) :
    iprop((K (F := F)).ctx EH (P m) κ ∗ (K (F := F)).tcSt EH d 0 ∗ (K (F := F)).tcRes m ρ d ∗ wm)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (ucRefs τ sig) (launchContents m d) from
    Pipeline.unscopedBufs_held d (launchContents m d), main_eq]
  iintro ⟨#Hctx, Hst, ⟨Hb, Hheld, Hts, -⟩, #Hwm⟩
  iapply (wp_seq 𝒱 none Set.univ d (ucRefs τ sig) (fun _ => ((K (F := F)).run d 0 >>= fun _ => seq following)) before before_sub before_fresh (launchContents m d)) $$ [Hb Hheld]
  · isplitl [Hb]; · iexact Hb
    iexact Hheld
  iintro ⟨Hb, Hheld⟩
  ihave Hh := (BIBase.Entails.of_eq (show (held (d.tc : Thread nD τ) (ucRefs τ sig) (after before (launchContents m d)) : sProp 𝕄)
      = iprop(pts d (X m d) ∗ held (d.tc : Thread nD τ) (ucRefs τ sig \ S7) (Vcall m d)) from by rw [← held_S7, ← held_sub_split _ S7_sub]; rfl)) $$ Hheld
  icases Hh with ⟨Hpts, Hrest⟩
  imod (res_in d (X m d)) $$ [Hpts] with Hres
  · isplitr; · iexact Hwm
    iexact Hpts
  ihave Hres := (deal d (X m d) fullShare winCore) $$ Hres
  icases Hres with ⟨Hs, Hback⟩
  rw [wp_bind]
  iapply ((K (F := F)).wp_run (D (F := F)) 𝒱 (EH := EH) (P := P m) κ d 0) $$ [Hst Hs Hback Hb Hts Hrest]
  isplitr; · iexact Hctx
  isplitl [Hst]; · iexact Hst
  isplitl [Hs]; · iapply (BIBase.Entails.of_eq (st0_eq m d).symm); iexact Hs
  iintro ⟨Hst, Hdn⟩
  ihave Hdn := (BIBase.Entails.of_eq (dn0_eq m d)) $$ Hdn
  ihave Hres := Hback $$ Hdn
  ihave Hres := (BIBase.Entails.of_eq (congrArg (res d (X m d) fullShare) cover)) $$ Hres
  imod (res_out d (X m d)) $$ [Hres] with Hpts
  · isplitr; · iexact Hwm
    iexact Hres
  ihave Hheld := (BIBase.Entails.of_eq (show iprop(pts d (X m d).done ∗ held (d.tc : Thread nD τ) (ucRefs τ sig \ S7) (Vcall m d))
      = (held (d.tc : Thread nD τ) (ucRefs τ sig) (Vback m d) : sProp 𝕄) from by
        rw [← insOf_Vback, ← held_S7, held_sub_split _ S7_sub (Vback m d),
          held_congr (V := Vcall m d) (V' := Vback m d) _ fun b hb => (Vback_of_not_mem m d b (Finset.mem_sdiff.1 hb).2).symm])) $$ [Hpts Hrest]
  · isplitl [Hpts]; · iexact Hpts
    iexact Hrest
  iapply (wp_seq_end (F := F) d) $$ [Hb Hheld]
  · isplitl [Hb]; · iexact Hb
    iexact Hheld
  iintro ⟨Hb, Hheld⟩
  isplitl [Hst]; · iexact Hst
  isplitl [Hheld]; · iexact Hheld
  isplitl [Hb] <;> iassumption

def fq (d : Dev nD) (s' : Phys nD τ sig (Elt F)) : Prop := ∀ b ∈ ucRefs τ sig, s'.mem.mem (d, b) = Vend m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro
  exact h

/-! ## The run -/

def QC : PUnit × MemSt nD τ sig (Elt F) → Prop := fun r => (∀ d : Dev nD, ∀ b ∈ ucRefs τ sig, r.2.mem (d, b) = Vend m d b) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launch_facts v₀
    (fun q hq => match q with | 0 => nomatch hq)
    (fun q _ => match q with | 0 => tileObl m)
    (fun q _ => match q with | 0 => SparseCore.Cfg.VecSplit.of_plain (vecSplit m))
    m ρ main (fun _ => wm) (FIN m) (u₀ (F := F)) (sep_elim_left.trans (hu₀ m ρ)) (hmain m ρ) (fq m) (hfin m) (QC m) (fun _ h hz => ⟨h, hz⟩)

end Launch

end Cert.Proof.KernelIdealRun
-- ==== Proof.KernelIdealRun.lean ====
module
public import proofs.«01_k».proof.Proof.KernelIdealLaunch
@[expose] public section

/-! # The kernel's results as functions of its arguments -/

noncomputable section

namespace Cert.Proof.KernelIdealRun

open Cert.KernelIdeal Cert.KernelIdeal.Gen
open Idealize.ShloMosaic Idealize.ShloMosaic.StableHlo
open Idealize.ShloMosaic.Pipeline (ucRefs)

variable {F : FTy → Type} [FloatOps F] [Named F]

/-- The bag the tasks read: the argument's rows one after the other. -/
def bagOf (a3 : S100000x10.Idx → BitVec 32) : S1000000.Idx → BitVec 32 := shapeCast S1000000 a3 shapeCasts_S100000x10_S1000000

/-- The parameters the tasks read: sixteen copies of the distance's logit, of the log scale, and of the three orientations. -/
def prmOf (a4 : S1x1.Idx → F .f32) (a5 : S1.Idx → F .f32) (a6 : S1x3.Idx → F .f32) : S80.Idx → F .f32 :=
  concatenate S80 0
    [⟨S16, broadcastInDim S16 ![0] bcast_S1_S16_0 (shapeCast S1 a4 shapeCasts_S1x1_S1)⟩, ⟨S16, broadcastInDim S16 ![0] bcast_S1_S16_0 a5⟩,
      ⟨S48, shapeCast S48 (broadcastInDim S16x3 ![0, 1] bcast_S1x3_S16x3_0_1
        (shapeCast S1x3 (shapeCast S3 a6 shapeCasts_S1x3_S3) shapeCasts_S3_S1x3)) shapeCasts_S16x3_S48⟩]
    concatenates_S16_S16_S48_S80_d0

variable (m : (ℓ : Loc nD τ sig) → Buf (Elt F) ℓ)

/-- The bag and the parameters of device `c`'s memory. -/
abbrev bagAt (c : Dev nD) : S1000000.Idx → BitVec 32 := bagOf (m ((c.tc : Thread nD τ).loc main_arg3))
abbrev prmAt (c : Dev nD) : S80.Idx → F .f32 :=
  prmOf (m ((c.tc : Thread nD τ).loc main_arg4)) (m ((c.tc : Thread nD τ).loc main_arg5)) (m ((c.tc : Thread nD τ).loc main_arg6))

theorem X_bag (c : Dev nD) : (X m c).bag = bagAt m c := by
  show Vcall m c bag' = _
  unfold Vcall before
  after_results_simp
  rfl

theorem X_prm (c : Dev nD) : (X m c).prm = prmAt m c := by
  show Vcall m c prm' = _
  unfold Vcall before
  after_results_simp
  show concatenate S80 0 [⟨S16, after (before.take 8) (launchContents m c) (Proc.devRef .tc main_v2)⟩,
    ⟨S16, after (before.take 8) (launchContents m c) (Proc.devRef .tc main_v3)⟩,
    ⟨S48, after (before.take 8) (launchContents m c) (Proc.devRef .tc main_v7)⟩] _ = _
  simp only [before, List.take]
  after_results_simp
  rfl

theorem Vend_arg0 (c : Dev nD) : Vend m c (Proc.devRef .tc (main_arg0 : Ref sig .tc)) = m ((c.tc : Thread nD τ).loc main_arg0) := by
  unfold Vend following
  after_results_simp
  rw [Vback_of_not_mem m c _ (by decide)]
  unfold Vcall before
  after_results_simp

theorem Vend_arg1 (c : Dev nD) : Vend m c (Proc.devRef .tc (main_arg1 : Ref sig .tc)) = m ((c.tc : Thread nD τ).loc main_arg1) := by
  unfold Vend following
  after_results_simp
  rw [Vback_of_not_mem m c _ (by decide)]
  unfold Vcall before
  after_results_simp

theorem Vend_arg2 (c : Dev nD) : Vend m c (Proc.devRef .tc (main_arg2 : Ref sig .tc)) = m ((c.tc : Thread nD τ).loc main_arg2) := by
  unfold Vend following
  after_results_simp
  rw [Vback_of_not_mem m c _ (by decide)]
  unfold Vcall before
  after_results_simp

theorem Vend_arg3 (c : Dev nD) : Vend m c (Proc.devRef .tc (main_arg3 : Ref sig .tc)) = m ((c.tc : Thread nD τ).loc main_arg3) := by
  unfold Vend following
  after_results_simp
  rw [Vback_of_not_mem m c _ (by decide)]
  unfold Vcall before
  after_results_simp

theorem Vend_arg4 (c : Dev nD) : Vend m c (Proc.devRef .tc (main_arg4 : Ref sig .tc)) = m ((c.tc : Thread nD τ).loc main_arg4) := by
  unfold Vend following
  after_results_simp
  rw [Vback_of_not_mem m c _ (by decide)]
  unfold Vcall before
  after_results_simp

theorem Vend_arg5 (c : Dev nD) : Vend m c (Proc.devRef .tc (main_arg5 : Ref sig .tc)) = m ((c.tc : Thread nD τ).loc main_arg5) := by
  unfold Vend following
  after_results_simp
  rw [Vback_of_not_mem m c _ (by decide)]
  unfold Vcall before
  after_results_simp

theorem Vend_arg6 (c : Dev nD) : Vend m c (Proc.devRef .tc (main_arg6 : Ref sig .tc)) = m ((c.tc : Thread nD τ).loc main_arg6) := by
  unfold Vend following
  after_results_simp
  rw [Vback_of_not_mem m c _ (by decide)]
  unfold Vcall before
  after_results_simp

theorem Vend_focus (c : Dev nD) : Vend m c (Proc.devRef .tc (main_v9_0 : Ref sig .tc)) = (gFocus : S100000.Idx → BitVec 32) := by
  unfold Vend following
  after_results_simp
  exact (Vback_focus m c)

theorem Vend_elem (c : Dev nD) : Vend m c (Proc.devRef .tc (main_v9_1 : Ref sig .tc)) = (gElem (bagAt m c) : S100000.Idx → BitVec 32) := by
  unfold Vend following
  after_results_simp
  exact (Vback_elem m c).trans (congrArg gElem (X_bag m c))

theorem Vend_dist (c : Dev nD) : Vend m c (Proc.devRef .tc (main_v10 : Ref sig .tc)) = shapeCast S100000x1 (gDist (prmAt m c)) shapeCasts_S100000_S100000x1 := by
  unfold Vend following
  after_results_simp
  exact congrArg (fun v => shapeCast S100000x1 v shapeCasts_S100000_S100000x1) ((Vback_dist m c).trans (congrArg gDist (X_prm m c)))

theorem Vend_orient (c : Dev nD) : Vend m c (Proc.devRef .tc (main_v11 : Ref sig .tc)) = shapeCast S100000x3 (gOrient (prmAt m c)) shapeCasts_S300000_S100000x3 := by
  unfold Vend following
  after_results_simp
  exact congrArg (fun v => shapeCast S100000x3 v shapeCasts_S300000_S100000x3) ((Vback_orient m c).trans (congrArg gOrient (X_prm m c)))

theorem Vend_logp (c : Dev nD) : Vend m c (Proc.devRef .tc (main_v12 : Ref sig .tc)) = shapeCast S100000x1 (gLogp (prmAt m c)) shapeCasts_S100000_S100000x1 := by
  unfold Vend following
  after_results_simp
  exact congrArg (fun v => shapeCast S100000x1 v shapeCasts_S100000_S100000x1) ((Vback_logp m c).trans (congrArg gLogp (X_prm m c)))

theorem mem_uc (b : Ref sig .tc) (h : (Proc.devRef (τ := τ) .tc b).isScoped = false) : Proc.devRef (τ := τ) .tc b ∈ ucRefs τ sig :=
  Finset.mem_filter.mpr ⟨devRef_mem_tcRefs b, by rw [h]; exact Bool.false_ne_true⟩

/-- Every weakly fair execution of the kernel ends with its results at these values, the arguments unchanged and every
    semaphore at zero. -/
theorem run [∀ e, Nonempty (Elt F e)] (ρ : Dev nD → PrngReg) : θ_run (Cert.KernelIdeal.defs (F := F)) (Cert.KernelIdeal.threads (F := F)) ⟨m, fun _ => 0, ρ⟩ fun r =>
    (∀ c : Dev nD, r.2.mem ((c.tc : Thread nD τ).loc main_v9_0) = (gFocus : S100000.Idx → BitVec 32)
      ∧ r.2.mem ((c.tc : Thread nD τ).loc main_v9_1) = (gElem (bagAt m c) : S100000.Idx → BitVec 32)
      ∧ r.2.mem ((c.tc : Thread nD τ).loc main_v10) = shapeCast S100000x1 (gDist (prmAt m c)) shapeCasts_S100000_S100000x1
      ∧ r.2.mem ((c.tc : Thread nD τ).loc main_v11) = shapeCast S100000x3 (gOrient (prmAt m c)) shapeCasts_S300000_S100000x3
      ∧ r.2.mem ((c.tc : Thread nD τ).loc main_v12) = shapeCast S100000x1 (gLogp (prmAt m c)) shapeCasts_S100000_S100000x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run Cert.KernelIdeal.defs _ _).mono (fun _ h => ⟨fun c =>
    ⟨(h.1 c _ (mem_uc main_v9_0 rfl)).trans (Vend_focus m c), (h.1 c _ (mem_uc main_v9_1 rfl)).trans (Vend_elem m c),
      (h.1 c _ (mem_uc main_v10 rfl)).trans (Vend_dist m c), (h.1 c _ (mem_uc main_v11 rfl)).trans (Vend_orient m c),
      (h.1 c _ (mem_uc main_v12 rfl)).trans (Vend_logp m c),
      (h.1 c _ (mem_uc main_arg0 rfl)).trans (Vend_arg0 m c), (h.1 c _ (mem_uc main_arg1 rfl)).trans (Vend_arg1 m c), (h.1 c _ (mem_uc main_arg2 rfl)).trans (Vend_arg2 m c), (h.1 c _ (mem_uc main_arg3 rfl)).trans (Vend_arg3 m c), (h.1 c _ (mem_uc main_arg4 rfl)).trans (Vend_arg4 m c), (h.1 c _ (mem_uc main_arg5 rfl)).trans (Vend_arg5 m c), (h.1 c _ (mem_uc main_arg6 rfl)).trans (Vend_arg6 m c)⟩, h.2⟩)
    (run_main m ρ)

end Cert.Proof.KernelIdealRun
-- ==== Proof.ReferenceRun.lean ====
module
public import proofs.«01_k».proof.Defs
public import proofs.«01_k».proof.Proof.Gen.ReferenceIdeal
public import Idealize.ShloMosaic.Lib.StableHlo.Run

@[expose] public section

/-! # The reference's run

The reference is a straight line of host operations. Each of its values is named, as a function of the arguments; the run
ends with the five results at the values so named. -/

noncomputable section

namespace Cert.Proof.ReferenceRun

open Cert.ReferenceIdeal Cert.ReferenceIdeal.Gen Idealize.ShloMosaic Idealize.ShloMosaic.TcCoe Idealize.SL.Sem Idealize.ShloMosaic.StableHlo

variable {F : FTy → Type} [FloatOps F]

/-- The arguments that the results depend on. -/
structure Args (F : FTy → Type) where
  arg1 : S1600000.Idx → BitVec 32
  arg2 : S100001.Idx → BitVec 32
  arg3 : S100000x10.Idx → BitVec 32
  arg4 : S1x1.Idx → F .f32
  arg5 : S1.Idx → F .f32
  arg6 : S1x3.Idx → F .f32

/-! ## The values -/

def cst (A : Args F) : (⟨S_, .f32⟩ : BufTy).Contents (Elt F) := (constant S_ .f32 0x3F800000#32)
def v0 (A : Args F) : (⟨S1600000, .f32⟩ : BufTy).Contents (Elt F) := (broadcastInDim S1600000 ![] bcast_S_S1600000 : (⟨S_, .f32⟩ : BufTy).Contents (Elt F) → (⟨S1600000, .f32⟩ : BufTy).Contents (Elt F)) (cst A)
def v1 (A : Args F) : (⟨S100000, .i32⟩ : BufTy).Contents (Elt F) := (iotaInDim S100000 32 0)
def v2 (A : Args F) : (⟨S100000x1, .i32⟩ : BufTy).Contents (Elt F) := (broadcastInDim S100000x1 ![0] bcast_S100000_S100000x1_0 : (⟨S100000, .i32⟩ : BufTy).Contents (Elt F) → (⟨S100000x1, .i32⟩ : BufTy).Contents (Elt F)) (v1 A)
def v3 (A : Args F) : (⟨S1x1600000, .i32⟩ : BufTy).Contents (Elt F) := (broadcastInDim S1x1600000 ![1] bcast_S1600000_S1x1600000_1 : (⟨S1600000, .i32⟩ : BufTy).Contents (Elt F) → (⟨S1x1600000, .i32⟩ : BufTy).Contents (Elt F)) A.arg1
def v4 (A : Args F) : (⟨S100000x1600000, .i32⟩ : BufTy).Contents (Elt F) := (broadcastInDim S100000x1600000 ![0, 1] bcast_S100000x1_S100000x1600000_0_1 : (⟨S100000x1, .i32⟩ : BufTy).Contents (Elt F) → (⟨S100000x1600000, .i32⟩ : BufTy).Contents (Elt F)) (v2 A)
def v5 (A : Args F) : (⟨S100000x1600000, .i32⟩ : BufTy).Contents (Elt F) := (broadcastInDim S100000x1600000 ![0, 1] bcast_S1x1600000_S100000x1600000_0_1 : (⟨S1x1600000, .i32⟩ : BufTy).Contents (Elt F) → (⟨S100000x1600000, .i32⟩ : BufTy).Contents (Elt F)) (v3 A)
def v6 (A : Args F) : (⟨S100000x1600000, .i1⟩ : BufTy).Contents (Elt F) := (cmpi .eq : (⟨S100000x1600000, .i32⟩ : BufTy).Contents (Elt F) → (⟨S100000x1600000, .i32⟩ : BufTy).Contents (Elt F) → (⟨S100000x1600000, .i1⟩ : BufTy).Contents (Elt F)) (v4 A) (v5 A)
def v7 (A : Args F) : (⟨S1x1600000, .f32⟩ : BufTy).Contents (Elt F) := (broadcastInDim S1x1600000 ![1] bcast_S1600000_S1x1600000_1 : (⟨S1600000, .f32⟩ : BufTy).Contents (Elt F) → (⟨S1x1600000, .f32⟩ : BufTy).Contents (Elt F)) (v0 A)
def cst_0 (A : Args F) : (⟨S_, .f32⟩ : BufTy).Contents (Elt F) := (constant S_ .f32 0xFF800000#32)
def call0_v0 (A : Args F) : (⟨S_, .f32⟩ : BufTy).Contents (Elt F) := id (cst_0 A)
def call0_v1 (A : Args F) : (⟨S100000x1600000, .f32⟩ : BufTy).Contents (Elt F) := (broadcastInDim S100000x1600000 ![0, 1] bcast_S1x1600000_S100000x1600000_0_1) (v7 A)
def call0_v2 (A : Args F) : (⟨S100000x1600000, .f32⟩ : BufTy).Contents (Elt F) := (broadcastInDim S100000x1600000 ![] bcast_S_S100000x1600000) (call0_v0 A)
def v8 (A : Args F) : (⟨S100000x1600000, .f32⟩ : BufTy).Contents (Elt F) := select (v6 A) (call0_v1 A) (call0_v2 A)
def cst_1 (A : Args F) : (⟨S_, .f32⟩ : BufTy).Contents (Elt F) := (constant S_ .f32 0xFF800000#32)
def v9 (A : Args F) : (⟨S100000, .f32⟩ : BufTy).Contents (Elt F) := ((fun x v => Host.reduce FloatOps.maximumf x v reducesTo_S100000x1600000_S100000_d1 h_S_) : (⟨S100000x1600000, .f32⟩ : BufTy).Contents (Elt F) → (⟨S_, .f32⟩ : BufTy).Contents (Elt F) → (⟨S100000, .f32⟩ : BufTy).Contents (Elt F)) (v8 A) (cst_1 A)
def c (A : Args F) : (⟨S_, .i32⟩ : BufTy).Contents (Elt F) := (constantI S_ 32 0#32)
def v10 (A : Args F) : (⟨S1600000, .i32⟩ : BufTy).Contents (Elt F) := (broadcastInDim S1600000 ![] bcast_S_S1600000 : (⟨S_, .i32⟩ : BufTy).Contents (Elt F) → (⟨S1600000, .i32⟩ : BufTy).Contents (Elt F)) (c A)
def v11 (A : Args F) : (⟨S1600000, .i1⟩ : BufTy).Contents (Elt F) := (cmpi .slt : (⟨S1600000, .i32⟩ : BufTy).Contents (Elt F) → (⟨S1600000, .i32⟩ : BufTy).Contents (Elt F) → (⟨S1600000, .i1⟩ : BufTy).Contents (Elt F)) A.arg1 (v10 A)
def c_2 (A : Args F) : (⟨S_, .i32⟩ : BufTy).Contents (Elt F) := (constantI S_ 32 100000#32)
def v12 (A : Args F) : (⟨S1600000, .i32⟩ : BufTy).Contents (Elt F) := (broadcastInDim S1600000 ![] bcast_S_S1600000 : (⟨S_, .i32⟩ : BufTy).Contents (Elt F) → (⟨S1600000, .i32⟩ : BufTy).Contents (Elt F)) (c_2 A)
def v13 (A : Args F) : (⟨S1600000, .i32⟩ : BufTy).Contents (Elt F) := (addi : (⟨S1600000, .i32⟩ : BufTy).Contents (Elt F) → (⟨S1600000, .i32⟩ : BufTy).Contents (Elt F) → (⟨S1600000, .i32⟩ : BufTy).Contents (Elt F)) A.arg1 (v12 A)
def v14 (A : Args F) : (⟨S1600000, .i32⟩ : BufTy).Contents (Elt F) := (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (v11 A) (v13 A) A.arg1
def v15 (A : Args F) : (⟨S1600000x1, .i32⟩ : BufTy).Contents (Elt F) := (broadcastInDim S1600000x1 ![0] bcast_S1600000_S1600000x1_0 : (⟨S1600000, .i32⟩ : BufTy).Contents (Elt F) → (⟨S1600000x1, .i32⟩ : BufTy).Contents (Elt F)) (v14 A)
def v16 (A : Args F) : (⟨S1600000, .f32⟩ : BufTy).Contents (Elt F) := ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) (v9 A) (v15 A)
def v17 (A : Args F) : (⟨S1600000, .f32⟩ : BufTy).Contents (Elt F) := (subf : (⟨S1600000, .f32⟩ : BufTy).Contents (Elt F) → (⟨S1600000, .f32⟩ : BufTy).Contents (Elt F) → (⟨S1600000, .f32⟩ : BufTy).Contents (Elt F)) (v0 A) (v16 A)
def v18 (A : Args F) : (⟨S1600000, .f32⟩ : BufTy).Contents (Elt F) := (Host.exp : (⟨S1600000, .f32⟩ : BufTy).Contents (Elt F) → (⟨S1600000, .f32⟩ : BufTy).Contents (Elt F)) (v17 A)
def cst_3 (A : Args F) : (⟨S_, .f32⟩ : BufTy).Contents (Elt F) := (constant S_ .f32 0x00000000#32)
def v19 (A : Args F) : (⟨S100000, .f32⟩ : BufTy).Contents (Elt F) := (broadcastInDim S100000 ![] bcast_S_S100000 : (⟨S_, .f32⟩ : BufTy).Contents (Elt F) → (⟨S100000, .f32⟩ : BufTy).Contents (Elt F)) (cst_3 A)
def v20 (A : Args F) : (⟨S1600000x1, .i32⟩ : BufTy).Contents (Elt F) := (broadcastInDim S1600000x1 ![0] bcast_S1600000_S1600000x1_0 : (⟨S1600000, .i32⟩ : BufTy).Contents (Elt F) → (⟨S1600000x1, .i32⟩ : BufTy).Contents (Elt F)) A.arg1
def v21 (A : Args F) : (⟨S100000, .f32⟩ : BufTy).Contents (Elt F) := ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) (v19 A) (v20 A) (v18 A)
def c_4 (A : Args F) : (⟨S_, .i32⟩ : BufTy).Contents (Elt F) := (constantI S_ 32 0#32)
def v22 (A : Args F) : (⟨S1600000, .i32⟩ : BufTy).Contents (Elt F) := (broadcastInDim S1600000 ![] bcast_S_S1600000 : (⟨S_, .i32⟩ : BufTy).Contents (Elt F) → (⟨S1600000, .i32⟩ : BufTy).Contents (Elt F)) (c_4 A)
def v23 (A : Args F) : (⟨S1600000, .i1⟩ : BufTy).Contents (Elt F) := (cmpi .slt : (⟨S1600000, .i32⟩ : BufTy).Contents (Elt F) → (⟨S1600000, .i32⟩ : BufTy).Contents (Elt F) → (⟨S1600000, .i1⟩ : BufTy).Contents (Elt F)) A.arg1 (v22 A)
def c_5 (A : Args F) : (⟨S_, .i32⟩ : BufTy).Contents (Elt F) := (constantI S_ 32 100000#32)
def v24 (A : Args F) : (⟨S1600000, .i32⟩ : BufTy).Contents (Elt F) := (broadcastInDim S1600000 ![] bcast_S_S1600000 : (⟨S_, .i32⟩ : BufTy).Contents (Elt F) → (⟨S1600000, .i32⟩ : BufTy).Contents (Elt F)) (c_5 A)
def v25 (A : Args F) : (⟨S1600000, .i32⟩ : BufTy).Contents (Elt F) := (addi : (⟨S1600000, .i32⟩ : BufTy).Contents (Elt F) → (⟨S1600000, .i32⟩ : BufTy).Contents (Elt F) → (⟨S1600000, .i32⟩ : BufTy).Contents (Elt F)) A.arg1 (v24 A)
def v26 (A : Args F) : (⟨S1600000, .i32⟩ : BufTy).Contents (Elt F) := (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (v23 A) (v25 A) A.arg1
def v27 (A : Args F) : (⟨S1600000x1, .i32⟩ : BufTy).Contents (Elt F) := (broadcastInDim S1600000x1 ![0] bcast_S1600000_S1600000x1_0 : (⟨S1600000, .i32⟩ : BufTy).Contents (Elt F) → (⟨S1600000x1, .i32⟩ : BufTy).Contents (Elt F)) (v26 A)
def v28 (A : Args F) : (⟨S1600000, .f32⟩ : BufTy).Contents (Elt F) := ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) (v21 A) (v27 A)
def v29 (A : Args F) : (⟨S1600000, .f32⟩ : BufTy).Contents (Elt F) := (Host.divf : (⟨S1600000, .f32⟩ : BufTy).Contents (Elt F) → (⟨S1600000, .f32⟩ : BufTy).Contents (Elt F) → (⟨S1600000, .f32⟩ : BufTy).Contents (Elt F)) (v18 A) (v28 A)
def v30 (A : Args F) : (⟨S100000, .i32⟩ : BufTy).Contents (Elt F) := (iotaInDim S100000 32 0)
def v31 (A : Args F) : (⟨S100000x1, .i32⟩ : BufTy).Contents (Elt F) := (broadcastInDim S100000x1 ![0] bcast_S100000_S100000x1_0 : (⟨S100000, .i32⟩ : BufTy).Contents (Elt F) → (⟨S100000x1, .i32⟩ : BufTy).Contents (Elt F)) (v30 A)
def v32 (A : Args F) : (⟨S1x1600000, .i32⟩ : BufTy).Contents (Elt F) := (broadcastInDim S1x1600000 ![1] bcast_S1600000_S1x1600000_1 : (⟨S1600000, .i32⟩ : BufTy).Contents (Elt F) → (⟨S1x1600000, .i32⟩ : BufTy).Contents (Elt F)) A.arg1
def v33 (A : Args F) : (⟨S100000x1600000, .i32⟩ : BufTy).Contents (Elt F) := (broadcastInDim S100000x1600000 ![0, 1] bcast_S100000x1_S100000x1600000_0_1 : (⟨S100000x1, .i32⟩ : BufTy).Contents (Elt F) → (⟨S100000x1600000, .i32⟩ : BufTy).Contents (Elt F)) (v31 A)
def v34 (A : Args F) : (⟨S100000x1600000, .i32⟩ : BufTy).Contents (Elt F) := (broadcastInDim S100000x1600000 ![0, 1] bcast_S1x1600000_S100000x1600000_0_1 : (⟨S1x1600000, .i32⟩ : BufTy).Contents (Elt F) → (⟨S100000x1600000, .i32⟩ : BufTy).Contents (Elt F)) (v32 A)
def v35 (A : Args F) : (⟨S100000x1600000, .i1⟩ : BufTy).Contents (Elt F) := (cmpi .eq : (⟨S100000x1600000, .i32⟩ : BufTy).Contents (Elt F) → (⟨S100000x1600000, .i32⟩ : BufTy).Contents (Elt F) → (⟨S100000x1600000, .i1⟩ : BufTy).Contents (Elt F)) (v33 A) (v34 A)
def v36 (A : Args F) : (⟨S1x1600000, .f32⟩ : BufTy).Contents (Elt F) := (broadcastInDim S1x1600000 ![1] bcast_S1600000_S1x1600000_1 : (⟨S1600000, .f32⟩ : BufTy).Contents (Elt F) → (⟨S1x1600000, .f32⟩ : BufTy).Contents (Elt F)) (v29 A)
def cst_6 (A : Args F) : (⟨S_, .f32⟩ : BufTy).Contents (Elt F) := (constant S_ .f32 0xFF800000#32)
def call1_v0 (A : Args F) : (⟨S_, .f32⟩ : BufTy).Contents (Elt F) := id (cst_6 A)
def call1_v1 (A : Args F) : (⟨S100000x1600000, .f32⟩ : BufTy).Contents (Elt F) := (broadcastInDim S100000x1600000 ![0, 1] bcast_S1x1600000_S100000x1600000_0_1) (v36 A)
def call1_v2 (A : Args F) : (⟨S100000x1600000, .f32⟩ : BufTy).Contents (Elt F) := (broadcastInDim S100000x1600000 ![] bcast_S_S100000x1600000) (call1_v0 A)
def v37 (A : Args F) : (⟨S100000x1600000, .f32⟩ : BufTy).Contents (Elt F) := select (v35 A) (call1_v1 A) (call1_v2 A)
def cst_7 (A : Args F) : (⟨S_, .f32⟩ : BufTy).Contents (Elt F) := (constant S_ .f32 0xFF800000#32)
def v38 (A : Args F) : (⟨S100000, .f32⟩ : BufTy).Contents (Elt F) := ((fun x v => Host.reduce FloatOps.maximumf x v reducesTo_S100000x1600000_S100000_d1 h_S_) : (⟨S100000x1600000, .f32⟩ : BufTy).Contents (Elt F) → (⟨S_, .f32⟩ : BufTy).Contents (Elt F) → (⟨S100000, .f32⟩ : BufTy).Contents (Elt F)) (v37 A) (cst_7 A)
def c_8 (A : Args F) : (⟨S_, .i32⟩ : BufTy).Contents (Elt F) := (constantI S_ 32 0#32)
def v39 (A : Args F) : (⟨S1600000, .i32⟩ : BufTy).Contents (Elt F) := (broadcastInDim S1600000 ![] bcast_S_S1600000 : (⟨S_, .i32⟩ : BufTy).Contents (Elt F) → (⟨S1600000, .i32⟩ : BufTy).Contents (Elt F)) (c_8 A)
def v40 (A : Args F) : (⟨S1600000, .i1⟩ : BufTy).Contents (Elt F) := (cmpi .slt : (⟨S1600000, .i32⟩ : BufTy).Contents (Elt F) → (⟨S1600000, .i32⟩ : BufTy).Contents (Elt F) → (⟨S1600000, .i1⟩ : BufTy).Contents (Elt F)) A.arg1 (v39 A)
def c_9 (A : Args F) : (⟨S_, .i32⟩ : BufTy).Contents (Elt F) := (constantI S_ 32 100000#32)
def v41 (A : Args F) : (⟨S1600000, .i32⟩ : BufTy).Contents (Elt F) := (broadcastInDim S1600000 ![] bcast_S_S1600000 : (⟨S_, .i32⟩ : BufTy).Contents (Elt F) → (⟨S1600000, .i32⟩ : BufTy).Contents (Elt F)) (c_9 A)
def v42 (A : Args F) : (⟨S1600000, .i32⟩ : BufTy).Contents (Elt F) := (addi : (⟨S1600000, .i32⟩ : BufTy).Contents (Elt F) → (⟨S1600000, .i32⟩ : BufTy).Contents (Elt F) → (⟨S1600000, .i32⟩ : BufTy).Contents (Elt F)) A.arg1 (v41 A)
def v43 (A : Args F) : (⟨S1600000, .i32⟩ : BufTy).Contents (Elt F) := (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (v40 A) (v42 A) A.arg1
def v44 (A : Args F) : (⟨S1600000x1, .i32⟩ : BufTy).Contents (Elt F) := (broadcastInDim S1600000x1 ![0] bcast_S1600000_S1600000x1_0 : (⟨S1600000, .i32⟩ : BufTy).Contents (Elt F) → (⟨S1600000x1, .i32⟩ : BufTy).Contents (Elt F)) (v43 A)
def v45 (A : Args F) : (⟨S1600000, .f32⟩ : BufTy).Contents (Elt F) := ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) (v38 A) (v44 A)
def v46 (A : Args F) : (⟨S1600000, .i1⟩ : BufTy).Contents (Elt F) := (cmpf .oge : (⟨S1600000, .f32⟩ : BufTy).Contents (Elt F) → (⟨S1600000, .f32⟩ : BufTy).Contents (Elt F) → (⟨S1600000, .i1⟩ : BufTy).Contents (Elt F)) (v29 A) (v45 A)
def v47 (A : Args F) : (⟨S1600000, .i32⟩ : BufTy).Contents (Elt F) := (iotaInDim S1600000 32 0)
def c_10 (A : Args F) : (⟨S_, .i32⟩ : BufTy).Contents (Elt F) := (constantI S_ 32 1600000#32)
def call2_v0 (A : Args F) : (⟨S_, .i32⟩ : BufTy).Contents (Elt F) := id (c_10 A)
def call2_v1 (A : Args F) : (⟨S1600000, .i32⟩ : BufTy).Contents (Elt F) := (broadcastInDim S1600000 ![] bcast_S_S1600000) (call2_v0 A)
def v48 (A : Args F) : (⟨S1600000, .i32⟩ : BufTy).Contents (Elt F) := select (v46 A) (v47 A) (call2_v1 A)
def c_11 (A : Args F) : (⟨S_, .i32⟩ : BufTy).Contents (Elt F) := (constantI S_ 32 2147483647#32)
def v49 (A : Args F) : (⟨S100000, .i32⟩ : BufTy).Contents (Elt F) := (broadcastInDim S100000 ![] bcast_S_S100000 : (⟨S_, .i32⟩ : BufTy).Contents (Elt F) → (⟨S100000, .i32⟩ : BufTy).Contents (Elt F)) (c_11 A)
def v50 (A : Args F) : (⟨S1600000x1, .i32⟩ : BufTy).Contents (Elt F) := (broadcastInDim S1600000x1 ![0] bcast_S1600000_S1600000x1_0 : (⟨S1600000, .i32⟩ : BufTy).Contents (Elt F) → (⟨S1600000x1, .i32⟩ : BufTy).Contents (Elt F)) A.arg1
def v51 (A : Args F) : (⟨S100000, .i32⟩ : BufTy).Contents (Elt F) := ((fun x i u => Host.scatter scatter_S100000_S1600000x1_S1600000_n_0_0_1 IntOp.minsi x i u) : (⟨S100000, .i32⟩ : BufTy).Contents (Elt F) → (⟨S1600000x1, .i32⟩ : BufTy).Contents (Elt F) → (⟨S1600000, .i32⟩ : BufTy).Contents (Elt F) → (⟨S100000, .i32⟩ : BufTy).Contents (Elt F)) (v49 A) (v50 A) (v48 A)
def v52 (A : Args F) : (⟨S100000, .i32⟩ : BufTy).Contents (Elt F) := ((extractStridedSlice S100000 ![0] · slices_S100001_S100000_0) : (⟨S100001, .i32⟩ : BufTy).Contents (Elt F) → (⟨S100000, .i32⟩ : BufTy).Contents (Elt F)) A.arg2
def v53 (A : Args F) : (⟨S100000, .i32⟩ : BufTy).Contents (Elt F) := (subi : (⟨S100000, .i32⟩ : BufTy).Contents (Elt F) → (⟨S100000, .i32⟩ : BufTy).Contents (Elt F) → (⟨S100000, .i32⟩ : BufTy).Contents (Elt F)) (v51 A) (v52 A)
def cst_12 (A : Args F) : (⟨S_, .f32⟩ : BufTy).Contents (Elt F) := (constant S_ .f32 0x3F800000#32)
def v54 (A : Args F) : (⟨S1600000x10, .f32⟩ : BufTy).Contents (Elt F) := (broadcastInDim S1600000x10 ![] bcast_S_S1600000x10 : (⟨S_, .f32⟩ : BufTy).Contents (Elt F) → (⟨S1600000x10, .f32⟩ : BufTy).Contents (Elt F)) (cst_12 A)
def c_13 (A : Args F) : (⟨S_, .i32⟩ : BufTy).Contents (Elt F) := (constantI S_ 32 0#32)
def v55 (A : Args F) : (⟨S100000x10, .i32⟩ : BufTy).Contents (Elt F) := (broadcastInDim S100000x10 ![] bcast_S_S100000x10 : (⟨S_, .i32⟩ : BufTy).Contents (Elt F) → (⟨S100000x10, .i32⟩ : BufTy).Contents (Elt F)) (c_13 A)
def v56 (A : Args F) : (⟨S100000x10, .i1⟩ : BufTy).Contents (Elt F) := (cmpi .sgt : (⟨S100000x10, .i32⟩ : BufTy).Contents (Elt F) → (⟨S100000x10, .i32⟩ : BufTy).Contents (Elt F) → (⟨S100000x10, .i1⟩ : BufTy).Contents (Elt F)) A.arg3 (v55 A)
def c_14 (A : Args F) : (⟨S_, .i32⟩ : BufTy).Contents (Elt F) := (constantI S_ 32 0#32)
def v57 (A : Args F) : (⟨S1600000, .i32⟩ : BufTy).Contents (Elt F) := (broadcastInDim S1600000 ![] bcast_S_S1600000 : (⟨S_, .i32⟩ : BufTy).Contents (Elt F) → (⟨S1600000, .i32⟩ : BufTy).Contents (Elt F)) (c_14 A)
def v58 (A : Args F) : (⟨S1600000, .i1⟩ : BufTy).Contents (Elt F) := (cmpi .slt : (⟨S1600000, .i32⟩ : BufTy).Contents (Elt F) → (⟨S1600000, .i32⟩ : BufTy).Contents (Elt F) → (⟨S1600000, .i1⟩ : BufTy).Contents (Elt F)) A.arg1 (v57 A)
def c_15 (A : Args F) : (⟨S_, .i32⟩ : BufTy).Contents (Elt F) := (constantI S_ 32 100000#32)
def v59 (A : Args F) : (⟨S1600000, .i32⟩ : BufTy).Contents (Elt F) := (broadcastInDim S1600000 ![] bcast_S_S1600000 : (⟨S_, .i32⟩ : BufTy).Contents (Elt F) → (⟨S1600000, .i32⟩ : BufTy).Contents (Elt F)) (c_15 A)
def v60 (A : Args F) : (⟨S1600000, .i32⟩ : BufTy).Contents (Elt F) := (addi : (⟨S1600000, .i32⟩ : BufTy).Contents (Elt F) → (⟨S1600000, .i32⟩ : BufTy).Contents (Elt F) → (⟨S1600000, .i32⟩ : BufTy).Contents (Elt F)) A.arg1 (v59 A)
def v61 (A : Args F) : (⟨S1600000, .i32⟩ : BufTy).Contents (Elt F) := (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (v58 A) (v60 A) A.arg1
def v62 (A : Args F) : (⟨S1600000x1, .i32⟩ : BufTy).Contents (Elt F) := (broadcastInDim S1600000x1 ![0] bcast_S1600000_S1600000x1_0 : (⟨S1600000, .i32⟩ : BufTy).Contents (Elt F) → (⟨S1600000x1, .i32⟩ : BufTy).Contents (Elt F)) (v61 A)
def v63 (A : Args F) : (⟨S1600000x10, .i1⟩ : BufTy).Contents (Elt F) := ((fun x i => Host.gather gather_S100000x10_S1600000x1_S1600000x10_1_0_n_n_0_1_110 x i) : (⟨S100000x10, .i1⟩ : BufTy).Contents (Elt F) → (⟨S1600000x1, .i32⟩ : BufTy).Contents (Elt F) → (⟨S1600000x10, .i1⟩ : BufTy).Contents (Elt F)) (v56 A) (v62 A)
def cst_16 (A : Args F) : (⟨S_, .f32⟩ : BufTy).Contents (Elt F) := (constant S_ .f32 0xCE6E6B28#32)
def call3_v0 (A : Args F) : (⟨S_, .f32⟩ : BufTy).Contents (Elt F) := id (cst_16 A)
def call3_v1 (A : Args F) : (⟨S1600000x10, .f32⟩ : BufTy).Contents (Elt F) := (broadcastInDim S1600000x10 ![] bcast_S_S1600000x10) (call3_v0 A)
def v64 (A : Args F) : (⟨S1600000x10, .f32⟩ : BufTy).Contents (Elt F) := select (v63 A) (v54 A) (call3_v1 A)
def cst_17 (A : Args F) : (⟨S_, .f32⟩ : BufTy).Contents (Elt F) := (constant S_ .f32 0xFF800000#32)
def v65 (A : Args F) : (⟨S1600000, .f32⟩ : BufTy).Contents (Elt F) := ((fun x v => Host.reduce FloatOps.maximumf x v reducesTo_S1600000x10_S1600000_d1 h_S_) : (⟨S1600000x10, .f32⟩ : BufTy).Contents (Elt F) → (⟨S_, .f32⟩ : BufTy).Contents (Elt F) → (⟨S1600000, .f32⟩ : BufTy).Contents (Elt F)) (v64 A) (cst_17 A)
def v66 (A : Args F) : (⟨S1600000x1, .f32⟩ : BufTy).Contents (Elt F) := (broadcastInDim S1600000x1 ![0] bcast_S1600000_S1600000x1_0 : (⟨S1600000, .f32⟩ : BufTy).Contents (Elt F) → (⟨S1600000x1, .f32⟩ : BufTy).Contents (Elt F)) (v65 A)
def v67 (A : Args F) : (⟨S1600000x10, .f32⟩ : BufTy).Contents (Elt F) := (broadcastInDim S1600000x10 ![0, 1] bcast_S1600000x1_S1600000x10_0_1 : (⟨S1600000x1, .f32⟩ : BufTy).Contents (Elt F) → (⟨S1600000x10, .f32⟩ : BufTy).Contents (Elt F)) (v66 A)
def v68 (A : Args F) : (⟨S1600000x10, .f32⟩ : BufTy).Contents (Elt F) := (subf : (⟨S1600000x10, .f32⟩ : BufTy).Contents (Elt F) → (⟨S1600000x10, .f32⟩ : BufTy).Contents (Elt F) → (⟨S1600000x10, .f32⟩ : BufTy).Contents (Elt F)) (v64 A) (v67 A)
def v69 (A : Args F) : (⟨S1600000x10, .f32⟩ : BufTy).Contents (Elt F) := (Host.exp : (⟨S1600000x10, .f32⟩ : BufTy).Contents (Elt F) → (⟨S1600000x10, .f32⟩ : BufTy).Contents (Elt F)) (v68 A)
def v70 (A : Args F) : (⟨S1600000x10, .f32⟩ : BufTy).Contents (Elt F) := (uitofp .f32 : (⟨S1600000x10, .i1⟩ : BufTy).Contents (Elt F) → (⟨S1600000x10, .f32⟩ : BufTy).Contents (Elt F)) (v63 A)
def v71 (A : Args F) : (⟨S1600000x10, .f32⟩ : BufTy).Contents (Elt F) := (mulf : (⟨S1600000x10, .f32⟩ : BufTy).Contents (Elt F) → (⟨S1600000x10, .f32⟩ : BufTy).Contents (Elt F) → (⟨S1600000x10, .f32⟩ : BufTy).Contents (Elt F)) (v69 A) (v70 A)
def cst_18 (A : Args F) : (⟨S_, .f32⟩ : BufTy).Contents (Elt F) := (constant S_ .f32 0x00000000#32)
def v72 (A : Args F) : (⟨S1600000, .f32⟩ : BufTy).Contents (Elt F) := ((fun x v => Host.reduceAdd x v reducesTo_S1600000x10_S1600000_d1 h_S_) : (⟨S1600000x10, .f32⟩ : BufTy).Contents (Elt F) → (⟨S_, .f32⟩ : BufTy).Contents (Elt F) → (⟨S1600000, .f32⟩ : BufTy).Contents (Elt F)) (v71 A) (cst_18 A)
def v73 (A : Args F) : (⟨S1600000x1, .f32⟩ : BufTy).Contents (Elt F) := (broadcastInDim S1600000x1 ![0] bcast_S1600000_S1600000x1_0 : (⟨S1600000, .f32⟩ : BufTy).Contents (Elt F) → (⟨S1600000x1, .f32⟩ : BufTy).Contents (Elt F)) (v72 A)
def cst_19 (A : Args F) : (⟨S_, .f32⟩ : BufTy).Contents (Elt F) := (constant S_ .f32 0x2B8CBCCC#32)
def call4_v0 (A : Args F) : (⟨S_, .f32⟩ : BufTy).Contents (Elt F) := id (cst_19 A)
def call4_v1 (A : Args F) : (⟨S1600000x1, .f32⟩ : BufTy).Contents (Elt F) := (broadcastInDim S1600000x1 ![] bcast_S_S1600000x1) (call4_v0 A)
def v74 (A : Args F) : (⟨S1600000x1, .f32⟩ : BufTy).Contents (Elt F) := maximumf (call4_v1 A) (v73 A)
def v75 (A : Args F) : (⟨S1600000x10, .f32⟩ : BufTy).Contents (Elt F) := (broadcastInDim S1600000x10 ![0, 1] bcast_S1600000x1_S1600000x10_0_1 : (⟨S1600000x1, .f32⟩ : BufTy).Contents (Elt F) → (⟨S1600000x10, .f32⟩ : BufTy).Contents (Elt F)) (v74 A)
def v76 (A : Args F) : (⟨S1600000x10, .f32⟩ : BufTy).Contents (Elt F) := (Host.divf : (⟨S1600000x10, .f32⟩ : BufTy).Contents (Elt F) → (⟨S1600000x10, .f32⟩ : BufTy).Contents (Elt F) → (⟨S1600000x10, .f32⟩ : BufTy).Contents (Elt F)) (v71 A) (v75 A)
def v77 (A : Args F) : (⟨S100000, .i32⟩ : BufTy).Contents (Elt F) := ((extractStridedSlice S100000 ![0] · slices_S100001_S100000_0) : (⟨S100001, .i32⟩ : BufTy).Contents (Elt F) → (⟨S100000, .i32⟩ : BufTy).Contents (Elt F)) A.arg2
def v78 (A : Args F) : (⟨S100000, .i32⟩ : BufTy).Contents (Elt F) := (addi : (⟨S100000, .i32⟩ : BufTy).Contents (Elt F) → (⟨S100000, .i32⟩ : BufTy).Contents (Elt F) → (⟨S100000, .i32⟩ : BufTy).Contents (Elt F)) (v53 A) (v77 A)
def c_20 (A : Args F) : (⟨S_, .i32⟩ : BufTy).Contents (Elt F) := (constantI S_ 32 0#32)
def v79 (A : Args F) : (⟨S100000, .i32⟩ : BufTy).Contents (Elt F) := (broadcastInDim S100000 ![] bcast_S_S100000 : (⟨S_, .i32⟩ : BufTy).Contents (Elt F) → (⟨S100000, .i32⟩ : BufTy).Contents (Elt F)) (c_20 A)
def v80 (A : Args F) : (⟨S100000, .i1⟩ : BufTy).Contents (Elt F) := (cmpi .slt : (⟨S100000, .i32⟩ : BufTy).Contents (Elt F) → (⟨S100000, .i32⟩ : BufTy).Contents (Elt F) → (⟨S100000, .i1⟩ : BufTy).Contents (Elt F)) (v78 A) (v79 A)
def c_21 (A : Args F) : (⟨S_, .i32⟩ : BufTy).Contents (Elt F) := (constantI S_ 32 1600000#32)
def v81 (A : Args F) : (⟨S100000, .i32⟩ : BufTy).Contents (Elt F) := (broadcastInDim S100000 ![] bcast_S_S100000 : (⟨S_, .i32⟩ : BufTy).Contents (Elt F) → (⟨S100000, .i32⟩ : BufTy).Contents (Elt F)) (c_21 A)
def v82 (A : Args F) : (⟨S100000, .i32⟩ : BufTy).Contents (Elt F) := (addi : (⟨S100000, .i32⟩ : BufTy).Contents (Elt F) → (⟨S100000, .i32⟩ : BufTy).Contents (Elt F) → (⟨S100000, .i32⟩ : BufTy).Contents (Elt F)) (v78 A) (v81 A)
def v83 (A : Args F) : (⟨S100000, .i32⟩ : BufTy).Contents (Elt F) := (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) (v80 A) (v82 A) (v78 A)
def v84 (A : Args F) : (⟨S100000x1, .i32⟩ : BufTy).Contents (Elt F) := (broadcastInDim S100000x1 ![0] bcast_S100000_S100000x1_0 : (⟨S100000, .i32⟩ : BufTy).Contents (Elt F) → (⟨S100000x1, .i32⟩ : BufTy).Contents (Elt F)) (v83 A)
def v85 (A : Args F) : (⟨S100000x10, .f32⟩ : BufTy).Contents (Elt F) := ((fun x i => Host.gather gather_S1600000x10_S100000x1_S100000x10_1_0_n_n_0_1_110 x i) : (⟨S1600000x10, .f32⟩ : BufTy).Contents (Elt F) → (⟨S100000x1, .i32⟩ : BufTy).Contents (Elt F) → (⟨S100000x10, .f32⟩ : BufTy).Contents (Elt F)) (v76 A) (v84 A)
def call5_v0 (A : Args F) : (⟨S100000x10, .i32⟩ : BufTy).Contents (Elt F) := (iotaInDim S100000x10 32 1)
def call5_cst (A : Args F) : (⟨S_, .f32⟩ : BufTy).Contents (Elt F) := (constant S_ .f32 0xFF800000#32)
def call5_c (A : Args F) : (⟨S_, .i32⟩ : BufTy).Contents (Elt F) := (constantI S_ 32 0#32)
def call5_v1_0 (A : Args F) : (⟨S100000, .f32⟩ : BufTy).Contents (Elt F) := (fun x y u v j => (Host.argReduce reducer_argmax_f32_i32 x y u v reducesTo_S100000x10_S100000_d1 h_S_ j).1) (v85 A) (call5_v0 A) (call5_cst A) (call5_c A)
def v86 (A : Args F) : (⟨S100000, .i32⟩ : BufTy).Contents (Elt F) := (fun x y u v j => (Host.argReduce reducer_argmax_f32_i32 x y u v reducesTo_S100000x10_S100000_d1 h_S_ j).2) (v85 A) (call5_v0 A) (call5_cst A) (call5_c A)
def v87 (A : Args F) : (⟨S100000x1, .f32⟩ : BufTy).Contents (Elt F) := (broadcastInDim S100000x1 ![0, 1] bcast_S1x1_S100000x1_0_1 : (⟨S1x1, .f32⟩ : BufTy).Contents (Elt F) → (⟨S100000x1, .f32⟩ : BufTy).Contents (Elt F)) A.arg4
def v88 (A : Args F) : (⟨S100000x1, .f32⟩ : BufTy).Contents (Elt F) := (Host.tanh : (⟨S100000x1, .f32⟩ : BufTy).Contents (Elt F) → (⟨S100000x1, .f32⟩ : BufTy).Contents (Elt F)) (v87 A)
def cst_22 (A : Args F) : (⟨S_, .f32⟩ : BufTy).Contents (Elt F) := (constant S_ .f32 0x3ED9999A#32)
def v89 (A : Args F) : (⟨S100000x1, .f32⟩ : BufTy).Contents (Elt F) := (broadcastInDim S100000x1 ![] bcast_S_S100000x1 : (⟨S_, .f32⟩ : BufTy).Contents (Elt F) → (⟨S100000x1, .f32⟩ : BufTy).Contents (Elt F)) (cst_22 A)
def v90 (A : Args F) : (⟨S100000x1, .f32⟩ : BufTy).Contents (Elt F) := (mulf : (⟨S100000x1, .f32⟩ : BufTy).Contents (Elt F) → (⟨S100000x1, .f32⟩ : BufTy).Contents (Elt F) → (⟨S100000x1, .f32⟩ : BufTy).Contents (Elt F)) (v88 A) (v89 A)
def cst_23 (A : Args F) : (⟨S_, .f32⟩ : BufTy).Contents (Elt F) := (constant S_ .f32 0x3FB00000#32)
def v91 (A : Args F) : (⟨S100000x1, .f32⟩ : BufTy).Contents (Elt F) := (broadcastInDim S100000x1 ![] bcast_S_S100000x1 : (⟨S_, .f32⟩ : BufTy).Contents (Elt F) → (⟨S100000x1, .f32⟩ : BufTy).Contents (Elt F)) (cst_23 A)
def v92 (A : Args F) : (⟨S100000x1, .f32⟩ : BufTy).Contents (Elt F) := (addf : (⟨S100000x1, .f32⟩ : BufTy).Contents (Elt F) → (⟨S100000x1, .f32⟩ : BufTy).Contents (Elt F) → (⟨S100000x1, .f32⟩ : BufTy).Contents (Elt F)) (v90 A) (v91 A)
def v93 (A : Args F) : (⟨S1, .f32⟩ : BufTy).Contents (Elt F) := (Host.exp : (⟨S1, .f32⟩ : BufTy).Contents (Elt F) → (⟨S1, .f32⟩ : BufTy).Contents (Elt F)) A.arg5
def cst_24 (A : Args F) : (⟨S_, .f32⟩ : BufTy).Contents (Elt F) := (constant S_ .f32 0x358637BD#32)
def v94 (A : Args F) : (⟨S1, .f32⟩ : BufTy).Contents (Elt F) := (broadcastInDim S1 ![] bcast_S_S1 : (⟨S_, .f32⟩ : BufTy).Contents (Elt F) → (⟨S1, .f32⟩ : BufTy).Contents (Elt F)) (cst_24 A)
def v95 (A : Args F) : (⟨S1, .f32⟩ : BufTy).Contents (Elt F) := (maximumf : (⟨S1, .f32⟩ : BufTy).Contents (Elt F) → (⟨S1, .f32⟩ : BufTy).Contents (Elt F) → (⟨S1, .f32⟩ : BufTy).Contents (Elt F)) (v93 A) (v94 A)
def v96 (A : Args F) : (⟨S1x1x1x3, .f32⟩ : BufTy).Contents (Elt F) := shapeCast _ A.arg6 shapeCasts_S1x3_S1x1x1x3
def v97 (A : Args F) : (⟨S100000x1x1x3, .f32⟩ : BufTy).Contents (Elt F) := (broadcastInDim S100000x1x1x3 ![0, 1, 2, 3] bcast_S1x1x1x3_S100000x1x1x3_0_1_2_3 : (⟨S1x1x1x3, .f32⟩ : BufTy).Contents (Elt F) → (⟨S100000x1x1x3, .f32⟩ : BufTy).Contents (Elt F)) (v96 A)
def v98 (A : Args F) : (⟨S100000x3, .f32⟩ : BufTy).Contents (Elt F) := shapeCast _ (v97 A) shapeCasts_S100000x1x1x3_S100000x3
def v99 (A : Args F) : (⟨S100000x1, .f32⟩ : BufTy).Contents (Elt F) := (subf : (⟨S100000x1, .f32⟩ : BufTy).Contents (Elt F) → (⟨S100000x1, .f32⟩ : BufTy).Contents (Elt F) → (⟨S100000x1, .f32⟩ : BufTy).Contents (Elt F)) (v92 A) (v92 A)
def v100 (A : Args F) : (⟨S100000x1, .f32⟩ : BufTy).Contents (Elt F) := (mulf : (⟨S100000x1, .f32⟩ : BufTy).Contents (Elt F) → (⟨S100000x1, .f32⟩ : BufTy).Contents (Elt F) → (⟨S100000x1, .f32⟩ : BufTy).Contents (Elt F)) (v99 A) (v99 A)
def v101 (A : Args F) : (⟨S100000x1, .f32⟩ : BufTy).Contents (Elt F) := (Host.negf : (⟨S100000x1, .f32⟩ : BufTy).Contents (Elt F) → (⟨S100000x1, .f32⟩ : BufTy).Contents (Elt F)) (v100 A)
def v102 (A : Args F) : (⟨S1, .f32⟩ : BufTy).Contents (Elt F) := (mulf : (⟨S1, .f32⟩ : BufTy).Contents (Elt F) → (⟨S1, .f32⟩ : BufTy).Contents (Elt F) → (⟨S1, .f32⟩ : BufTy).Contents (Elt F)) (v95 A) (v95 A)
def cst_25 (A : Args F) : (⟨S_, .f32⟩ : BufTy).Contents (Elt F) := (constant S_ .f32 0x40000000#32)
def v103 (A : Args F) : (⟨S1, .f32⟩ : BufTy).Contents (Elt F) := (broadcastInDim S1 ![] bcast_S_S1 : (⟨S_, .f32⟩ : BufTy).Contents (Elt F) → (⟨S1, .f32⟩ : BufTy).Contents (Elt F)) (cst_25 A)
def v104 (A : Args F) : (⟨S1, .f32⟩ : BufTy).Contents (Elt F) := (mulf : (⟨S1, .f32⟩ : BufTy).Contents (Elt F) → (⟨S1, .f32⟩ : BufTy).Contents (Elt F) → (⟨S1, .f32⟩ : BufTy).Contents (Elt F)) (v103 A) (v102 A)
def v105 (A : Args F) : (⟨S1x1, .f32⟩ : BufTy).Contents (Elt F) := (broadcastInDim S1x1 ![1] bcast_S1_S1x1_1 : (⟨S1, .f32⟩ : BufTy).Contents (Elt F) → (⟨S1x1, .f32⟩ : BufTy).Contents (Elt F)) (v104 A)
def v106 (A : Args F) : (⟨S100000x1, .f32⟩ : BufTy).Contents (Elt F) := (broadcastInDim S100000x1 ![0, 1] bcast_S1x1_S100000x1_0_1 : (⟨S1x1, .f32⟩ : BufTy).Contents (Elt F) → (⟨S100000x1, .f32⟩ : BufTy).Contents (Elt F)) (v105 A)
def v107 (A : Args F) : (⟨S100000x1, .f32⟩ : BufTy).Contents (Elt F) := (Host.divf : (⟨S100000x1, .f32⟩ : BufTy).Contents (Elt F) → (⟨S100000x1, .f32⟩ : BufTy).Contents (Elt F) → (⟨S100000x1, .f32⟩ : BufTy).Contents (Elt F)) (v101 A) (v106 A)
def v108 (A : Args F) : (⟨S1, .f32⟩ : BufTy).Contents (Elt F) := (Host.log : (⟨S1, .f32⟩ : BufTy).Contents (Elt F) → (⟨S1, .f32⟩ : BufTy).Contents (Elt F)) (v95 A)
def v109 (A : Args F) : (⟨S1x1, .f32⟩ : BufTy).Contents (Elt F) := (broadcastInDim S1x1 ![1] bcast_S1_S1x1_1 : (⟨S1, .f32⟩ : BufTy).Contents (Elt F) → (⟨S1x1, .f32⟩ : BufTy).Contents (Elt F)) (v108 A)
def v110 (A : Args F) : (⟨S100000x1, .f32⟩ : BufTy).Contents (Elt F) := (broadcastInDim S100000x1 ![0, 1] bcast_S1x1_S100000x1_0_1 : (⟨S1x1, .f32⟩ : BufTy).Contents (Elt F) → (⟨S100000x1, .f32⟩ : BufTy).Contents (Elt F)) (v109 A)
def v111 (A : Args F) : (⟨S100000x1, .f32⟩ : BufTy).Contents (Elt F) := (subf : (⟨S100000x1, .f32⟩ : BufTy).Contents (Elt F) → (⟨S100000x1, .f32⟩ : BufTy).Contents (Elt F) → (⟨S100000x1, .f32⟩ : BufTy).Contents (Elt F)) (v107 A) (v110 A)
def cst_26 (A : Args F) : (⟨S_, .f32⟩ : BufTy).Contents (Elt F) := (constant S_ .f32 0x40C90FDB#32)
def v112 (A : Args F) : (⟨S_, .f32⟩ : BufTy).Contents (Elt F) := (Host.log : (⟨S_, .f32⟩ : BufTy).Contents (Elt F) → (⟨S_, .f32⟩ : BufTy).Contents (Elt F)) (cst_26 A)
def cst_27 (A : Args F) : (⟨S_, .f32⟩ : BufTy).Contents (Elt F) := (constant S_ .f32 0x3F000000#32)
def v113 (A : Args F) : (⟨S_, .f32⟩ : BufTy).Contents (Elt F) := (mulf : (⟨S_, .f32⟩ : BufTy).Contents (Elt F) → (⟨S_, .f32⟩ : BufTy).Contents (Elt F) → (⟨S_, .f32⟩ : BufTy).Contents (Elt F)) (cst_27 A) (v112 A)
def v114 (A : Args F) : (⟨S_, .f32⟩ : BufTy).Contents (Elt F) := (id : (⟨S_, .f32⟩ : BufTy).Contents (Elt F) → (⟨S_, .f32⟩ : BufTy).Contents (Elt F)) (v113 A)
def v115 (A : Args F) : (⟨S100000x1, .f32⟩ : BufTy).Contents (Elt F) := (broadcastInDim S100000x1 ![] bcast_S_S100000x1 : (⟨S_, .f32⟩ : BufTy).Contents (Elt F) → (⟨S100000x1, .f32⟩ : BufTy).Contents (Elt F)) (v114 A)
def v116 (A : Args F) : (⟨S100000x1, .f32⟩ : BufTy).Contents (Elt F) := (subf : (⟨S100000x1, .f32⟩ : BufTy).Contents (Elt F) → (⟨S100000x1, .f32⟩ : BufTy).Contents (Elt F) → (⟨S100000x1, .f32⟩ : BufTy).Contents (Elt F)) (v111 A) (v115 A)
def v117 (A : Args F) : (⟨S100000x1x1, .f32⟩ : BufTy).Contents (Elt F) := (broadcastInDim S100000x1x1 ![0, 1] bcast_S100000x1_S100000x1x1_0_1 : (⟨S100000x1, .f32⟩ : BufTy).Contents (Elt F) → (⟨S100000x1x1, .f32⟩ : BufTy).Contents (Elt F)) (v116 A)
def cst_28 (A : Args F) : (⟨S_, .f32⟩ : BufTy).Contents (Elt F) := (constant S_ .f32 0x00000000#32)
def v118 (A : Args F) : (⟨S100000x1, .f32⟩ : BufTy).Contents (Elt F) := ((fun x v => Host.reduceAdd x v reducesTo_S100000x1x1_S100000x1_d2 h_S_) : (⟨S100000x1x1, .f32⟩ : BufTy).Contents (Elt F) → (⟨S_, .f32⟩ : BufTy).Contents (Elt F) → (⟨S100000x1, .f32⟩ : BufTy).Contents (Elt F)) (v117 A) (cst_28 A)

/-! ## The run -/

/-- The program's operations, in order. -/
abbrev ops : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_v1 (iotaInDim S100000 32 0),
    unary main_v1 main_v2 (broadcastInDim S100000x1 ![0] bcast_S100000_S100000x1_0 : (⟨S100000, .i32⟩ : BufTy).Contents (Elt F) → (⟨S100000x1, .i32⟩ : BufTy).Contents (Elt F)),
    unary main_arg1 main_v3 (broadcastInDim S1x1600000 ![1] bcast_S1600000_S1x1600000_1 : (⟨S1600000, .i32⟩ : BufTy).Contents (Elt F) → (⟨S1x1600000, .i32⟩ : BufTy).Contents (Elt F)),
    unary main_v2 main_v4 (broadcastInDim S100000x1600000 ![0, 1] bcast_S100000x1_S100000x1600000_0_1 : (⟨S100000x1, .i32⟩ : BufTy).Contents (Elt F) → (⟨S100000x1600000, .i32⟩ : BufTy).Contents (Elt F)),
    unary main_v3 main_v5 (broadcastInDim S100000x1600000 ![0, 1] bcast_S1x1600000_S100000x1600000_0_1 : (⟨S1x1600000, .i32⟩ : BufTy).Contents (Elt F) → (⟨S100000x1600000, .i32⟩ : BufTy).Contents (Elt F)),
    binary main_v4 main_v5 main_v6 (cmpi .eq : (⟨S100000x1600000, .i32⟩ : BufTy).Contents (Elt F) → (⟨S100000x1600000, .i32⟩ : BufTy).Contents (Elt F) → (⟨S100000x1600000, .i1⟩ : BufTy).Contents (Elt F)),
    unary main_v0 main_v7 (broadcastInDim S1x1600000 ![1] bcast_S1600000_S1x1600000_1 : (⟨S1600000, .f32⟩ : BufTy).Contents (Elt F) → (⟨S1x1600000, .f32⟩ : BufTy).Contents (Elt F)),
    nullary main_cst_0 (constant S_ .f32 0xFF800000#32),
    TRef.unary (TRef.of (T := ⟨S_, .f32⟩) main_cst_0) (TRef.of (T := ⟨S_, .f32⟩) main_call0_v0) id,
    TRef.unary (TRef.of (T := ⟨S1x1600000, .f32⟩) main_v7) (TRef.of (T := ⟨S100000x1600000, .f32⟩) main_call0_v1) (broadcastInDim S100000x1600000 ![0, 1] bcast_S1x1600000_S100000x1600000_0_1),
    TRef.unary (TRef.of (T := ⟨S_, .f32⟩) main_call0_v0) (TRef.of (T := ⟨S100000x1600000, .f32⟩) main_call0_v2) (broadcastInDim S100000x1600000 ![] bcast_S_S100000x1600000),
    TRef.ternary (TRef.of (T := ⟨S100000x1600000, .i1⟩) main_v6) (TRef.of (T := ⟨S100000x1600000, .f32⟩) main_call0_v1) (TRef.of (T := ⟨S100000x1600000, .f32⟩) main_call0_v2) (TRef.of (T := ⟨S100000x1600000, .f32⟩) main_v8) select,
    nullary main_cst_1 (constant S_ .f32 0xFF800000#32),
    binary main_v8 main_cst_1 main_v9 ((fun x v => Host.reduce FloatOps.maximumf x v reducesTo_S100000x1600000_S100000_d1 h_S_) : (⟨S100000x1600000, .f32⟩ : BufTy).Contents (Elt F) → (⟨S_, .f32⟩ : BufTy).Contents (Elt F) → (⟨S100000, .f32⟩ : BufTy).Contents (Elt F)),
    nullary main_c (constantI S_ 32 0#32),
    unary main_c main_v10 (broadcastInDim S1600000 ![] bcast_S_S1600000 : (⟨S_, .i32⟩ : BufTy).Contents (Elt F) → (⟨S1600000, .i32⟩ : BufTy).Contents (Elt F)),
    binary main_arg1 main_v10 main_v11 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v12 (broadcastInDim S1600000 ![] bcast_S_S1600000 : (⟨S_, .i32⟩ : BufTy).Contents (Elt F) → (⟨S1600000, .i32⟩ : BufTy).Contents (Elt F)),
    binary main_arg1 main_v12 main_v13 (addi : (⟨S1600000, .i32⟩ : BufTy).Contents (Elt F) → (⟨S1600000, .i32⟩ : BufTy).Contents (Elt F) → (⟨S1600000, .i32⟩ : BufTy).Contents (Elt F)),
    ternary main_v11 main_v13 main_arg1 main_v14 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v14 main_v15 (broadcastInDim S1600000x1 ![0] bcast_S1600000_S1600000x1_0 : (⟨S1600000, .i32⟩ : BufTy).Contents (Elt F) → (⟨S1600000x1, .i32⟩ : BufTy).Contents (Elt F)),
    binary main_v9 main_v15 main_v16 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v0 main_v16 main_v17 (subf : (⟨S1600000, .f32⟩ : BufTy).Contents (Elt F) → (⟨S1600000, .f32⟩ : BufTy).Contents (Elt F) → (⟨S1600000, .f32⟩ : BufTy).Contents (Elt F)),
    unary main_v17 main_v18 (Host.exp : (⟨S1600000, .f32⟩ : BufTy).Contents (Elt F) → (⟨S1600000, .f32⟩ : BufTy).Contents (Elt F)),
    nullary main_cst_3 (constant S_ .f32 0x00000000#32),
    unary main_cst_3 main_v19 (broadcastInDim S100000 ![] bcast_S_S100000 : (⟨S_, .f32⟩ : BufTy).Contents (Elt F) → (⟨S100000, .f32⟩ : BufTy).Contents (Elt F)),
    unary main_arg1 main_v20 (broadcastInDim S1600000x1 ![0] bcast_S1600000_S1600000x1_0 : (⟨S1600000, .i32⟩ : BufTy).Contents (Elt F) → (⟨S1600000x1, .i32⟩ : BufTy).Contents (Elt F)),
    ternary main_v19 main_v20 main_v18 main_v21 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_c_4 (constantI S_ 32 0#32),
    unary main_c_4 main_v22 (broadcastInDim S1600000 ![] bcast_S_S1600000 : (⟨S_, .i32⟩ : BufTy).Contents (Elt F) → (⟨S1600000, .i32⟩ : BufTy).Contents (Elt F)),
    binary main_arg1 main_v22 main_v23 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v24 (broadcastInDim S1600000 ![] bcast_S_S1600000 : (⟨S_, .i32⟩ : BufTy).Contents (Elt F) → (⟨S1600000, .i32⟩ : BufTy).Contents (Elt F)),
    binary main_arg1 main_v24 main_v25 (addi : (⟨S1600000, .i32⟩ : BufTy).Contents (Elt F) → (⟨S1600000, .i32⟩ : BufTy).Contents (Elt F) → (⟨S1600000, .i32⟩ : BufTy).Contents (Elt F)),
    ternary main_v23 main_v25 main_arg1 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v26 main_v27 (broadcastInDim S1600000x1 ![0] bcast_S1600000_S1600000x1_0 : (⟨S1600000, .i32⟩ : BufTy).Contents (Elt F) → (⟨S1600000x1, .i32⟩ : BufTy).Contents (Elt F)),
    binary main_v21 main_v27 main_v28 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v18 main_v28 main_v29 (Host.divf : (⟨S1600000, .f32⟩ : BufTy).Contents (Elt F) → (⟨S1600000, .f32⟩ : BufTy).Contents (Elt F) → (⟨S1600000, .f32⟩ : BufTy).Contents (Elt F)),
    nullary main_v30 (iotaInDim S100000 32 0),
    unary main_v30 main_v31 (broadcastInDim S100000x1 ![0] bcast_S100000_S100000x1_0 : (⟨S100000, .i32⟩ : BufTy).Contents (Elt F) → (⟨S100000x1, .i32⟩ : BufTy).Contents (Elt F)),
    unary main_arg1 main_v32 (broadcastInDim S1x1600000 ![1] bcast_S1600000_S1x1600000_1 : (⟨S1600000, .i32⟩ : BufTy).Contents (Elt F) → (⟨S1x1600000, .i32⟩ : BufTy).Contents (Elt F)),
    unary main_v31 main_v33 (broadcastInDim S100000x1600000 ![0, 1] bcast_S100000x1_S100000x1600000_0_1 : (⟨S100000x1, .i32⟩ : BufTy).Contents (Elt F) → (⟨S100000x1600000, .i32⟩ : BufTy).Contents (Elt F)),
    unary main_v32 main_v34 (broadcastInDim S100000x1600000 ![0, 1] bcast_S1x1600000_S100000x1600000_0_1 : (⟨S1x1600000, .i32⟩ : BufTy).Contents (Elt F) → (⟨S100000x1600000, .i32⟩ : BufTy).Contents (Elt F)),
    binary main_v33 main_v34 main_v35 (cmpi .eq : (⟨S100000x1600000, .i32⟩ : BufTy).Contents (Elt F) → (⟨S100000x1600000, .i32⟩ : BufTy).Contents (Elt F) → (⟨S100000x1600000, .i1⟩ : BufTy).Contents (Elt F)),
    unary main_v29 main_v36 (broadcastInDim S1x1600000 ![1] bcast_S1600000_S1x1600000_1 : (⟨S1600000, .f32⟩ : BufTy).Contents (Elt F) → (⟨S1x1600000, .f32⟩ : BufTy).Contents (Elt F)),
    nullary main_cst_6 (constant S_ .f32 0xFF800000#32),
    TRef.unary (TRef.of (T := ⟨S_, .f32⟩) main_cst_6) (TRef.of (T := ⟨S_, .f32⟩) main_call1_v0) id,
    TRef.unary (TRef.of (T := ⟨S1x1600000, .f32⟩) main_v36) (TRef.of (T := ⟨S100000x1600000, .f32⟩) main_call1_v1) (broadcastInDim S100000x1600000 ![0, 1] bcast_S1x1600000_S100000x1600000_0_1),
    TRef.unary (TRef.of (T := ⟨S_, .f32⟩) main_call1_v0) (TRef.of (T := ⟨S100000x1600000, .f32⟩) main_call1_v2) (broadcastInDim S100000x1600000 ![] bcast_S_S100000x1600000),
    TRef.ternary (TRef.of (T := ⟨S100000x1600000, .i1⟩) main_v35) (TRef.of (T := ⟨S100000x1600000, .f32⟩) main_call1_v1) (TRef.of (T := ⟨S100000x1600000, .f32⟩) main_call1_v2) (TRef.of (T := ⟨S100000x1600000, .f32⟩) main_v37) select,
    nullary main_cst_7 (constant S_ .f32 0xFF800000#32),
    binary main_v37 main_cst_7 main_v38 ((fun x v => Host.reduce FloatOps.maximumf x v reducesTo_S100000x1600000_S100000_d1 h_S_) : (⟨S100000x1600000, .f32⟩ : BufTy).Contents (Elt F) → (⟨S_, .f32⟩ : BufTy).Contents (Elt F) → (⟨S100000, .f32⟩ : BufTy).Contents (Elt F)),
    nullary main_c_8 (constantI S_ 32 0#32),
    unary main_c_8 main_v39 (broadcastInDim S1600000 ![] bcast_S_S1600000 : (⟨S_, .i32⟩ : BufTy).Contents (Elt F) → (⟨S1600000, .i32⟩ : BufTy).Contents (Elt F)),
    binary main_arg1 main_v39 main_v40 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v41 (broadcastInDim S1600000 ![] bcast_S_S1600000 : (⟨S_, .i32⟩ : BufTy).Contents (Elt F) → (⟨S1600000, .i32⟩ : BufTy).Contents (Elt F)),
    binary main_arg1 main_v41 main_v42 (addi : (⟨S1600000, .i32⟩ : BufTy).Contents (Elt F) → (⟨S1600000, .i32⟩ : BufTy).Contents (Elt F) → (⟨S1600000, .i32⟩ : BufTy).Contents (Elt F)),
    ternary main_v40 main_v42 main_arg1 main_v43 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v43 main_v44 (broadcastInDim S1600000x1 ![0] bcast_S1600000_S1600000x1_0 : (⟨S1600000, .i32⟩ : BufTy).Contents (Elt F) → (⟨S1600000x1, .i32⟩ : BufTy).Contents (Elt F)),
    binary main_v38 main_v44 main_v45 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v29 main_v45 main_v46 (cmpf .oge : (⟨S1600000, .f32⟩ : BufTy).Contents (Elt F) → (⟨S1600000, .f32⟩ : BufTy).Contents (Elt F) → (⟨S1600000, .i1⟩ : BufTy).Contents (Elt F)),
    nullary main_v47 (iotaInDim S1600000 32 0),
    nullary main_c_10 (constantI S_ 32 1600000#32),
    TRef.unary (TRef.of (T := ⟨S_, .i32⟩) main_c_10) (TRef.of (T := ⟨S_, .i32⟩) main_call2_v0) id,
    TRef.unary (TRef.of (T := ⟨S_, .i32⟩) main_call2_v0) (TRef.of (T := ⟨S1600000, .i32⟩) main_call2_v1) (broadcastInDim S1600000 ![] bcast_S_S1600000),
    TRef.ternary (TRef.of (T := ⟨S1600000, .i1⟩) main_v46) (TRef.of (T := ⟨S1600000, .i32⟩) main_v47) (TRef.of (T := ⟨S1600000, .i32⟩) main_call2_v1) (TRef.of (T := ⟨S1600000, .i32⟩) main_v48) select,
    nullary main_c_11 (constantI S_ 32 2147483647#32),
    unary main_c_11 main_v49 (broadcastInDim S100000 ![] bcast_S_S100000 : (⟨S_, .i32⟩ : BufTy).Contents (Elt F) → (⟨S100000, .i32⟩ : BufTy).Contents (Elt F)),
    unary main_arg1 main_v50 (broadcastInDim S1600000x1 ![0] bcast_S1600000_S1600000x1_0 : (⟨S1600000, .i32⟩ : BufTy).Contents (Elt F) → (⟨S1600000x1, .i32⟩ : BufTy).Contents (Elt F)),
    ternary main_v49 main_v50 main_v48 main_v51 ((fun x i u => Host.scatter scatter_S100000_S1600000x1_S1600000_n_0_0_1 IntOp.minsi x i u) : (⟨S100000, .i32⟩ : BufTy).Contents (Elt F) → (⟨S1600000x1, .i32⟩ : BufTy).Contents (Elt F) → (⟨S1600000, .i32⟩ : BufTy).Contents (Elt F) → (⟨S100000, .i32⟩ : BufTy).Contents (Elt F)),
    unary main_arg2 main_v52 ((extractStridedSlice S100000 ![0] · slices_S100001_S100000_0) : (⟨S100001, .i32⟩ : BufTy).Contents (Elt F) → (⟨S100000, .i32⟩ : BufTy).Contents (Elt F)),
    binary main_v51 main_v52 main_v53 (subi : (⟨S100000, .i32⟩ : BufTy).Contents (Elt F) → (⟨S100000, .i32⟩ : BufTy).Contents (Elt F) → (⟨S100000, .i32⟩ : BufTy).Contents (Elt F)),
    nullary main_cst_12 (constant S_ .f32 0x3F800000#32),
    unary main_cst_12 main_v54 (broadcastInDim S1600000x10 ![] bcast_S_S1600000x10 : (⟨S_, .f32⟩ : BufTy).Contents (Elt F) → (⟨S1600000x10, .f32⟩ : BufTy).Contents (Elt F)),
    nullary main_c_13 (constantI S_ 32 0#32),
    unary main_c_13 main_v55 (broadcastInDim S100000x10 ![] bcast_S_S100000x10 : (⟨S_, .i32⟩ : BufTy).Contents (Elt F) → (⟨S100000x10, .i32⟩ : BufTy).Contents (Elt F)),
    binary main_arg3 main_v55 main_v56 (cmpi .sgt : (⟨S100000x10, .i32⟩ : BufTy).Contents (Elt F) → (⟨S100000x10, .i32⟩ : BufTy).Contents (Elt F) → (⟨S100000x10, .i1⟩ : BufTy).Contents (Elt F)),
    nullary main_c_14 (constantI S_ 32 0#32),
    unary main_c_14 main_v57 (broadcastInDim S1600000 ![] bcast_S_S1600000 : (⟨S_, .i32⟩ : BufTy).Contents (Elt F) → (⟨S1600000, .i32⟩ : BufTy).Contents (Elt F)),
    binary main_arg1 main_v57 main_v58 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v59 (broadcastInDim S1600000 ![] bcast_S_S1600000 : (⟨S_, .i32⟩ : BufTy).Contents (Elt F) → (⟨S1600000, .i32⟩ : BufTy).Contents (Elt F)),
    binary main_arg1 main_v59 main_v60 (addi : (⟨S1600000, .i32⟩ : BufTy).Contents (Elt F) → (⟨S1600000, .i32⟩ : BufTy).Contents (Elt F) → (⟨S1600000, .i32⟩ : BufTy).Contents (Elt F)),
    ternary main_v58 main_v60 main_arg1 main_v61 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v61 main_v62 (broadcastInDim S1600000x1 ![0] bcast_S1600000_S1600000x1_0 : (⟨S1600000, .i32⟩ : BufTy).Contents (Elt F) → (⟨S1600000x1, .i32⟩ : BufTy).Contents (Elt F)),
    binary main_v56 main_v62 main_v63 ((fun x i => Host.gather gather_S100000x10_S1600000x1_S1600000x10_1_0_n_n_0_1_110 x i) : (⟨S100000x10, .i1⟩ : BufTy).Contents (Elt F) → (⟨S1600000x1, .i32⟩ : BufTy).Contents (Elt F) → (⟨S1600000x10, .i1⟩ : BufTy).Contents (Elt F)),
    nullary main_cst_16 (constant S_ .f32 0xCE6E6B28#32),
    TRef.unary (TRef.of (T := ⟨S_, .f32⟩) main_cst_16) (TRef.of (T := ⟨S_, .f32⟩) main_call3_v0) id,
    TRef.unary (TRef.of (T := ⟨S_, .f32⟩) main_call3_v0) (TRef.of (T := ⟨S1600000x10, .f32⟩) main_call3_v1) (broadcastInDim S1600000x10 ![] bcast_S_S1600000x10),
    TRef.ternary (TRef.of (T := ⟨S1600000x10, .i1⟩) main_v63) (TRef.of (T := ⟨S1600000x10, .f32⟩) main_v54) (TRef.of (T := ⟨S1600000x10, .f32⟩) main_call3_v1) (TRef.of (T := ⟨S1600000x10, .f32⟩) main_v64) select,
    nullary main_cst_17 (constant S_ .f32 0xFF800000#32),
    binary main_v64 main_cst_17 main_v65 ((fun x v => Host.reduce FloatOps.maximumf x v reducesTo_S1600000x10_S1600000_d1 h_S_) : (⟨S1600000x10, .f32⟩ : BufTy).Contents (Elt F) → (⟨S_, .f32⟩ : BufTy).Contents (Elt F) → (⟨S1600000, .f32⟩ : BufTy).Contents (Elt F)),
    unary main_v65 main_v66 (broadcastInDim S1600000x1 ![0] bcast_S1600000_S1600000x1_0 : (⟨S1600000, .f32⟩ : BufTy).Contents (Elt F) → (⟨S1600000x1, .f32⟩ : BufTy).Contents (Elt F)),
    unary main_v66 main_v67 (broadcastInDim S1600000x10 ![0, 1] bcast_S1600000x1_S1600000x10_0_1 : (⟨S1600000x1, .f32⟩ : BufTy).Contents (Elt F) → (⟨S1600000x10, .f32⟩ : BufTy).Contents (Elt F)),
    binary main_v64 main_v67 main_v68 (subf : (⟨S1600000x10, .f32⟩ : BufTy).Contents (Elt F) → (⟨S1600000x10, .f32⟩ : BufTy).Contents (Elt F) → (⟨S1600000x10, .f32⟩ : BufTy).Contents (Elt F)),
    unary main_v68 main_v69 (Host.exp : (⟨S1600000x10, .f32⟩ : BufTy).Contents (Elt F) → (⟨S1600000x10, .f32⟩ : BufTy).Contents (Elt F)),
    unary main_v63 main_v70 (uitofp .f32 : (⟨S1600000x10, .i1⟩ : BufTy).Contents (Elt F) → (⟨S1600000x10, .f32⟩ : BufTy).Contents (Elt F)),
    binary main_v69 main_v70 main_v71 (mulf : (⟨S1600000x10, .f32⟩ : BufTy).Contents (Elt F) → (⟨S1600000x10, .f32⟩ : BufTy).Contents (Elt F) → (⟨S1600000x10, .f32⟩ : BufTy).Contents (Elt F)),
    nullary main_cst_18 (constant S_ .f32 0x00000000#32),
    binary main_v71 main_cst_18 main_v72 ((fun x v => Host.reduceAdd x v reducesTo_S1600000x10_S1600000_d1 h_S_) : (⟨S1600000x10, .f32⟩ : BufTy).Contents (Elt F) → (⟨S_, .f32⟩ : BufTy).Contents (Elt F) → (⟨S1600000, .f32⟩ : BufTy).Contents (Elt F)),
    unary main_v72 main_v73 (broadcastInDim S1600000x1 ![0] bcast_S1600000_S1600000x1_0 : (⟨S1600000, .f32⟩ : BufTy).Contents (Elt F) → (⟨S1600000x1, .f32⟩ : BufTy).Contents (Elt F)),
    nullary main_cst_19 (constant S_ .f32 0x2B8CBCCC#32),
    TRef.unary (TRef.of (T := ⟨S_, .f32⟩) main_cst_19) (TRef.of (T := ⟨S_, .f32⟩) main_call4_v0) id,
    TRef.unary (TRef.of (T := ⟨S_, .f32⟩) main_call4_v0) (TRef.of (T := ⟨S1600000x1, .f32⟩) main_call4_v1) (broadcastInDim S1600000x1 ![] bcast_S_S1600000x1),
    TRef.binary (TRef.of (T := ⟨S1600000x1, .f32⟩) main_call4_v1) (TRef.of (T := ⟨S1600000x1, .f32⟩) main_v73) (TRef.of (T := ⟨S1600000x1, .f32⟩) main_v74) maximumf,
    unary main_v74 main_v75 (broadcastInDim S1600000x10 ![0, 1] bcast_S1600000x1_S1600000x10_0_1 : (⟨S1600000x1, .f32⟩ : BufTy).Contents (Elt F) → (⟨S1600000x10, .f32⟩ : BufTy).Contents (Elt F)),
    binary main_v71 main_v75 main_v76 (Host.divf : (⟨S1600000x10, .f32⟩ : BufTy).Contents (Elt F) → (⟨S1600000x10, .f32⟩ : BufTy).Contents (Elt F) → (⟨S1600000x10, .f32⟩ : BufTy).Contents (Elt F)),
    unary main_arg2 main_v77 ((extractStridedSlice S100000 ![0] · slices_S100001_S100000_0) : (⟨S100001, .i32⟩ : BufTy).Contents (Elt F) → (⟨S100000, .i32⟩ : BufTy).Contents (Elt F)),
    binary main_v53 main_v77 main_v78 (addi : (⟨S100000, .i32⟩ : BufTy).Contents (Elt F) → (⟨S100000, .i32⟩ : BufTy).Contents (Elt F) → (⟨S100000, .i32⟩ : BufTy).Contents (Elt F)),
    nullary main_c_20 (constantI S_ 32 0#32),
    unary main_c_20 main_v79 (broadcastInDim S100000 ![] bcast_S_S100000 : (⟨S_, .i32⟩ : BufTy).Contents (Elt F) → (⟨S100000, .i32⟩ : BufTy).Contents (Elt F)),
    binary main_v78 main_v79 main_v80 (cmpi .slt : (⟨S100000, .i32⟩ : BufTy).Contents (Elt F) → (⟨S100000, .i32⟩ : BufTy).Contents (Elt F) → (⟨S100000, .i1⟩ : BufTy).Contents (Elt F)),
    nullary main_c_21 (constantI S_ 32 1600000#32),
    unary main_c_21 main_v81 (broadcastInDim S100000 ![] bcast_S_S100000 : (⟨S_, .i32⟩ : BufTy).Contents (Elt F) → (⟨S100000, .i32⟩ : BufTy).Contents (Elt F)),
    binary main_v78 main_v81 main_v82 (addi : (⟨S100000, .i32⟩ : BufTy).Contents (Elt F) → (⟨S100000, .i32⟩ : BufTy).Contents (Elt F) → (⟨S100000, .i32⟩ : BufTy).Contents (Elt F)),
    ternary main_v80 main_v82 main_v78 main_v83 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v83 main_v84 (broadcastInDim S100000x1 ![0] bcast_S100000_S100000x1_0 : (⟨S100000, .i32⟩ : BufTy).Contents (Elt F) → (⟨S100000x1, .i32⟩ : BufTy).Contents (Elt F)),
    binary main_v76 main_v84 main_v85 ((fun x i => Host.gather gather_S1600000x10_S100000x1_S100000x10_1_0_n_n_0_1_110 x i) : (⟨S1600000x10, .f32⟩ : BufTy).Contents (Elt F) → (⟨S100000x1, .i32⟩ : BufTy).Contents (Elt F) → (⟨S100000x10, .f32⟩ : BufTy).Contents (Elt F)),
    TRef.nullary (TRef.of (T := ⟨S100000x10, .i32⟩) main_call5_v0) (iotaInDim S100000x10 32 1),
    TRef.nullary (TRef.of (T := ⟨S_, .f32⟩) main_call5_cst) (constant S_ .f32 0xFF800000#32),
    TRef.nullary (TRef.of (T := ⟨S_, .i32⟩) main_call5_c) (constantI S_ 32 0#32),
    TRef.quaternary (TRef.of (T := ⟨S100000x10, .f32⟩) main_v85) (TRef.of (T := ⟨S100000x10, .i32⟩) main_call5_v0) (TRef.of (T := ⟨S_, .f32⟩) main_call5_cst) (TRef.of (T := ⟨S_, .i32⟩) main_call5_c) (TRef.of (T := ⟨S100000, .f32⟩) main_call5_v1_0) (fun x y u v j => (Host.argReduce reducer_argmax_f32_i32 x y u v reducesTo_S100000x10_S100000_d1 h_S_ j).1),
    TRef.quaternary (TRef.of (T := ⟨S100000x10, .f32⟩) main_v85) (TRef.of (T := ⟨S100000x10, .i32⟩) main_call5_v0) (TRef.of (T := ⟨S_, .f32⟩) main_call5_cst) (TRef.of (T := ⟨S_, .i32⟩) main_call5_c) (TRef.of (T := ⟨S100000, .i32⟩) main_v86) (fun x y u v j => (Host.argReduce reducer_argmax_f32_i32 x y u v reducesTo_S100000x10_S100000_d1 h_S_ j).2),
    unary main_arg4 main_v87 (broadcastInDim S100000x1 ![0, 1] bcast_S1x1_S100000x1_0_1 : (⟨S1x1, .f32⟩ : BufTy).Contents (Elt F) → (⟨S100000x1, .f32⟩ : BufTy).Contents (Elt F)),
    unary main_v87 main_v88 (Host.tanh : (⟨S100000x1, .f32⟩ : BufTy).Contents (Elt F) → (⟨S100000x1, .f32⟩ : BufTy).Contents (Elt F)),
    nullary main_cst_22 (constant S_ .f32 0x3ED9999A#32),
    unary main_cst_22 main_v89 (broadcastInDim S100000x1 ![] bcast_S_S100000x1 : (⟨S_, .f32⟩ : BufTy).Contents (Elt F) → (⟨S100000x1, .f32⟩ : BufTy).Contents (Elt F)),
    binary main_v88 main_v89 main_v90 (mulf : (⟨S100000x1, .f32⟩ : BufTy).Contents (Elt F) → (⟨S100000x1, .f32⟩ : BufTy).Contents (Elt F) → (⟨S100000x1, .f32⟩ : BufTy).Contents (Elt F)),
    nullary main_cst_23 (constant S_ .f32 0x3FB00000#32),
    unary main_cst_23 main_v91 (broadcastInDim S100000x1 ![] bcast_S_S100000x1 : (⟨S_, .f32⟩ : BufTy).Contents (Elt F) → (⟨S100000x1, .f32⟩ : BufTy).Contents (Elt F)),
    binary main_v90 main_v91 main_v92 (addf : (⟨S100000x1, .f32⟩ : BufTy).Contents (Elt F) → (⟨S100000x1, .f32⟩ : BufTy).Contents (Elt F) → (⟨S100000x1, .f32⟩ : BufTy).Contents (Elt F)),
    unary main_arg5 main_v93 (Host.exp : (⟨S1, .f32⟩ : BufTy).Contents (Elt F) → (⟨S1, .f32⟩ : BufTy).Contents (Elt F)),
    nullary main_cst_24 (constant S_ .f32 0x358637BD#32),
    unary main_cst_24 main_v94 (broadcastInDim S1 ![] bcast_S_S1 : (⟨S_, .f32⟩ : BufTy).Contents (Elt F) → (⟨S1, .f32⟩ : BufTy).Contents (Elt F)),
    binary main_v93 main_v94 main_v95 (maximumf : (⟨S1, .f32⟩ : BufTy).Contents (Elt F) → (⟨S1, .f32⟩ : BufTy).Contents (Elt F) → (⟨S1, .f32⟩ : BufTy).Contents (Elt F)),
    reshape main_arg6 main_v96 (rfl : (.f32 : EltTy) = .f32) shapeCasts_S1x3_S1x1x1x3,
    unary main_v96 main_v97 (broadcastInDim S100000x1x1x3 ![0, 1, 2, 3] bcast_S1x1x1x3_S100000x1x1x3_0_1_2_3 : (⟨S1x1x1x3, .f32⟩ : BufTy).Contents (Elt F) → (⟨S100000x1x1x3, .f32⟩ : BufTy).Contents (Elt F)),
    reshape main_v97 main_v98 (rfl : (.f32 : EltTy) = .f32) shapeCasts_S100000x1x1x3_S100000x3,
    binary main_v92 main_v92 main_v99 (subf : (⟨S100000x1, .f32⟩ : BufTy).Contents (Elt F) → (⟨S100000x1, .f32⟩ : BufTy).Contents (Elt F) → (⟨S100000x1, .f32⟩ : BufTy).Contents (Elt F)),
    binary main_v99 main_v99 main_v100 (mulf : (⟨S100000x1, .f32⟩ : BufTy).Contents (Elt F) → (⟨S100000x1, .f32⟩ : BufTy).Contents (Elt F) → (⟨S100000x1, .f32⟩ : BufTy).Contents (Elt F)),
    unary main_v100 main_v101 (Host.negf : (⟨S100000x1, .f32⟩ : BufTy).Contents (Elt F) → (⟨S100000x1, .f32⟩ : BufTy).Contents (Elt F)),
    binary main_v95 main_v95 main_v102 (mulf : (⟨S1, .f32⟩ : BufTy).Contents (Elt F) → (⟨S1, .f32⟩ : BufTy).Contents (Elt F) → (⟨S1, .f32⟩ : BufTy).Contents (Elt F)),
    nullary main_cst_25 (constant S_ .f32 0x40000000#32),
    unary main_cst_25 main_v103 (broadcastInDim S1 ![] bcast_S_S1 : (⟨S_, .f32⟩ : BufTy).Contents (Elt F) → (⟨S1, .f32⟩ : BufTy).Contents (Elt F)),
    binary main_v103 main_v102 main_v104 (mulf : (⟨S1, .f32⟩ : BufTy).Contents (Elt F) → (⟨S1, .f32⟩ : BufTy).Contents (Elt F) → (⟨S1, .f32⟩ : BufTy).Contents (Elt F)),
    unary main_v104 main_v105 (broadcastInDim S1x1 ![1] bcast_S1_S1x1_1 : (⟨S1, .f32⟩ : BufTy).Contents (Elt F) → (⟨S1x1, .f32⟩ : BufTy).Contents (Elt F)),
    unary main_v105 main_v106 (broadcastInDim S100000x1 ![0, 1] bcast_S1x1_S100000x1_0_1 : (⟨S1x1, .f32⟩ : BufTy).Contents (Elt F) → (⟨S100000x1, .f32⟩ : BufTy).Contents (Elt F)),
    binary main_v101 main_v106 main_v107 (Host.divf : (⟨S100000x1, .f32⟩ : BufTy).Contents (Elt F) → (⟨S100000x1, .f32⟩ : BufTy).Contents (Elt F) → (⟨S100000x1, .f32⟩ : BufTy).Contents (Elt F)),
    unary main_v95 main_v108 (Host.log : (⟨S1, .f32⟩ : BufTy).Contents (Elt F) → (⟨S1, .f32⟩ : BufTy).Contents (Elt F)),
    unary main_v108 main_v109 (broadcastInDim S1x1 ![1] bcast_S1_S1x1_1 : (⟨S1, .f32⟩ : BufTy).Contents (Elt F) → (⟨S1x1, .f32⟩ : BufTy).Contents (Elt F)),
    unary main_v109 main_v110 (broadcastInDim S100000x1 ![0, 1] bcast_S1x1_S100000x1_0_1 : (⟨S1x1, .f32⟩ : BufTy).Contents (Elt F) → (⟨S100000x1, .f32⟩ : BufTy).Contents (Elt F)),
    binary main_v107 main_v110 main_v111 (subf : (⟨S100000x1, .f32⟩ : BufTy).Contents (Elt F) → (⟨S100000x1, .f32⟩ : BufTy).Contents (Elt F) → (⟨S100000x1, .f32⟩ : BufTy).Contents (Elt F)),
    nullary main_cst_26 (constant S_ .f32 0x40C90FDB#32),
    unary main_cst_26 main_v112 (Host.log : (⟨S_, .f32⟩ : BufTy).Contents (Elt F) → (⟨S_, .f32⟩ : BufTy).Contents (Elt F)),
    nullary main_cst_27 (constant S_ .f32 0x3F000000#32),
    binary main_cst_27 main_v112 main_v113 (mulf : (⟨S_, .f32⟩ : BufTy).Contents (Elt F) → (⟨S_, .f32⟩ : BufTy).Contents (Elt F) → (⟨S_, .f32⟩ : BufTy).Contents (Elt F)),
    unary main_v113 main_v114 (id : (⟨S_, .f32⟩ : BufTy).Contents (Elt F) → (⟨S_, .f32⟩ : BufTy).Contents (Elt F)),
    unary main_v114 main_v115 (broadcastInDim S100000x1 ![] bcast_S_S100000x1 : (⟨S_, .f32⟩ : BufTy).Contents (Elt F) → (⟨S100000x1, .f32⟩ : BufTy).Contents (Elt F)),
    binary main_v111 main_v115 main_v116 (subf : (⟨S100000x1, .f32⟩ : BufTy).Contents (Elt F) → (⟨S100000x1, .f32⟩ : BufTy).Contents (Elt F) → (⟨S100000x1, .f32⟩ : BufTy).Contents (Elt F)),
    unary main_v116 main_v117 (broadcastInDim S100000x1x1 ![0, 1] bcast_S100000x1_S100000x1x1_0_1 : (⟨S100000x1, .f32⟩ : BufTy).Contents (Elt F) → (⟨S100000x1x1, .f32⟩ : BufTy).Contents (Elt F)),
    nullary main_cst_28 (constant S_ .f32 0x00000000#32),
    binary main_v117 main_cst_28 main_v118 ((fun x v => Host.reduceAdd x v reducesTo_S100000x1x1_S100000x1_d2 h_S_) : (⟨S100000x1x1, .f32⟩ : BufTy).Contents (Elt F) → (⟨S_, .f32⟩ : BufTy).Contents (Elt F) → (⟨S100000x1, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., unary_bufs_sub .., unary_bufs_sub .., unary_bufs_sub .., binary_bufs_sub .., unary_bufs_sub .., nullary_bufs_sub .., unary_bufs_sub .., unary_bufs_sub .., unary_bufs_sub .., ternary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., unary_bufs_sub .., unary_bufs_sub .., binary_bufs_sub .., unary_bufs_sub .., nullary_bufs_sub .., unary_bufs_sub .., unary_bufs_sub .., unary_bufs_sub .., ternary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., nullary_bufs_sub .., unary_bufs_sub .., unary_bufs_sub .., ternary_bufs_sub .., nullary_bufs_sub .., unary_bufs_sub .., unary_bufs_sub .., ternary_bufs_sub .., unary_bufs_sub .., binary_bufs_sub .., nullary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., unary_bufs_sub .., binary_bufs_sub .., unary_bufs_sub .., unary_bufs_sub .., binary_bufs_sub .., nullary_bufs_sub .., binary_bufs_sub .., unary_bufs_sub .., nullary_bufs_sub .., unary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., nullary_bufs_sub .., nullary_bufs_sub .., quaternary_bufs_sub .., quaternary_bufs_sub .., unary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., reshape_bufs_sub .., unary_bufs_sub .., reshape_bufs_sub .., binary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., nullary_bufs_sub .., unary_bufs_sub .., nullary_bufs_sub .., binary_bufs_sub .., unary_bufs_sub .., unary_bufs_sub .., binary_bufs_sub .., unary_bufs_sub .., nullary_bufs_sub .., binary_bufs_sub ..⟩

/-- The arguments as device `c`'s memory holds them. -/
def args (m : (ℓ : Loc nD τ sig) → Buf (Elt F) ℓ) (c : Dev nD) : Args F where
  arg1 := m ((c.tc : Thread nD τ).loc main_arg1)
  arg2 := m ((c.tc : Thread nD τ).loc main_arg2)
  arg3 := m ((c.tc : Thread nD τ).loc main_arg3)
  arg4 := m ((c.tc : Thread nD τ).loc main_arg4)
  arg5 := m ((c.tc : Thread nD τ).loc main_arg5)
  arg6 := m ((c.tc : Thread nD τ).loc main_arg6)

set_option maxRecDepth 8192 in
set_option maxHeartbeats 69600000 in
/-- Every weakly fair execution of the reference ends with its results at the named values and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = v53 (args m c)
      ∧ r.2.mem ((c.tc : Thread nD τ).loc main_v86) = v86 (args m c)
      ∧ r.2.mem ((c.tc : Thread nD τ).loc main_v92) = v92 (args m c)
      ∧ r.2.mem ((c.tc : Thread nD τ).loc main_v98) = v98 (args m c)
      ∧ r.2.mem ((c.tc : Thread nD τ).loc main_v118) = v118 (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v53).trans (by simp only [ops, TRef.nullary, TRef.binary, TRef.ternary, TRef.quaternary, TRef.unary, TRef.toBuf, TRef.ofBuf, cast_eq]; after_results_simp <;> rfl),
      (h c main_v86).trans (by simp only [ops, TRef.nullary, TRef.binary, TRef.ternary, TRef.quaternary, TRef.unary, TRef.toBuf, TRef.ofBuf, cast_eq]; after_results_simp <;> rfl),
      (h c main_v92).trans (by simp only [ops, TRef.nullary, TRef.binary, TRef.ternary, TRef.quaternary, TRef.unary, TRef.toBuf, TRef.ofBuf, cast_eq]; after_results_simp <;> rfl),
      (h c main_v98).trans (by simp only [ops, TRef.nullary, TRef.binary, TRef.ternary, TRef.quaternary, TRef.unary, TRef.toBuf, TRef.ofBuf, cast_eq]; after_results_simp <;> rfl),
      (h c main_v118).trans (by simp only [ops, TRef.nullary, TRef.binary, TRef.ternary, TRef.quaternary, TRef.unary, TRef.toBuf, TRef.ofBuf, cast_eq]; after_results_simp <;> rfl),
      (h c main_arg0).trans (by simp only [ops, TRef.nullary, TRef.binary, TRef.ternary, TRef.quaternary, TRef.unary, TRef.toBuf, TRef.ofBuf, cast_eq]; after_results_simp <;> rfl),
      (h c main_arg1).trans (by simp only [ops, TRef.nullary, TRef.binary, TRef.ternary, TRef.quaternary, TRef.unary, TRef.toBuf, TRef.ofBuf, cast_eq]; after_results_simp <;> rfl),
      (h c main_arg2).trans (by simp only [ops, TRef.nullary, TRef.binary, TRef.ternary, TRef.quaternary, TRef.unary, TRef.toBuf, TRef.ofBuf, cast_eq]; after_results_simp <;> rfl),
      (h c main_arg3).trans (by simp only [ops, TRef.nullary, TRef.binary, TRef.ternary, TRef.quaternary, TRef.unary, TRef.toBuf, TRef.ofBuf, cast_eq]; after_results_simp <;> rfl),
      (h c main_arg4).trans (by simp only [ops, TRef.nullary, TRef.binary, TRef.ternary, TRef.quaternary, TRef.unary, TRef.toBuf, TRef.ofBuf, cast_eq]; after_results_simp <;> rfl),
      (h c main_arg5).trans (by simp only [ops, TRef.nullary, TRef.binary, TRef.ternary, TRef.quaternary, TRef.unary, TRef.toBuf, TRef.ofBuf, cast_eq]; after_results_simp <;> rfl),
      (h c main_arg6).trans (by simp only [ops, TRef.nullary, TRef.binary, TRef.ternary, TRef.quaternary, TRef.unary, TRef.toBuf, TRef.ofBuf, cast_eq]; after_results_simp <;> rfl)⟩)
    (run_seq scopedRefs_eq scopedSems_eq defs main (fun _ => ops) main_eq (fun _ => ops_sub) m ρ)

end Cert.Proof.ReferenceRun
-- ==== Proof.Frames.lean ====
module
public import proofs.«01_k».proof.Defs
public import proofs.«01_k».proof.Proof.KernelRun
public import proofs.«01_k».proof.Proof.KernelIdealRun
public import proofs.«01_k».proof.Proof.ReferenceRun
public import proofs.«01_k».proof.Proof.Gen.Pre_segments
@[expose] public section

/-! # The frames, and the named constants

Each program runs, ends with its arguments as they began and every semaphore at zero. -/

noncomputable section

namespace Cert.Proof

open Idealize.ShloMosaic Idealize.SL.Sem

theorem frame_kernel : Cert.quiescent_Kernel (hKernel := Cert.Kernel.Gen.facts) := fun m g _ =>
  (θ_run (Cert.Kernel.defs (F := Bits)) _ _).mono (fun _ h => ⟨fun c => (h.1 c).2.2.2.2.2, h.2⟩)
    (KernelRun.run m g)

theorem frame_ideal : Cert.quiescent_KernelIdeal (hKernelIdeal := Cert.KernelIdeal.Gen.facts) := fun m g _ =>
  (θ_run (Cert.KernelIdeal.defs (F := Ideal)) _ _).mono (fun _ h => ⟨fun c => (h.1 c).2.2.2.2.2, h.2⟩)
    (KernelIdealRun.run m g)

theorem frame_ideal_pre : Cert.quiescent_KernelIdeal_pre_segments (hKernelIdeal := Cert.KernelIdeal.Gen.facts)
    (hPre_segments := Cert.Pre_segments.Gen.facts) := fun m g _ =>
  (θ_run (Cert.KernelIdeal.defs (F := Ideal)) _ _).mono (fun _ h => ⟨fun c => (h.1 c).2.2.2.2.2, h.2⟩)
    (KernelIdealRun.run m g)

theorem frame_reference : Cert.quiescent_ReferenceIdeal (hReferenceIdeal := Cert.ReferenceIdeal.Gen.facts) := fun m g _ =>
  (θ_run (Cert.ReferenceIdeal.defs (F := Ideal)) _ _).mono
    (fun r h => ⟨fun c => (h c).2.2.2.2.2, Idealize.ShloMosaic.sem_eq_zero_of_no_sems (by decide) r.2⟩)
    (ReferenceRun.run m g)

theorem frame_reference_pre : Cert.quiescent_ReferenceIdeal_pre_segments (hReferenceIdeal := Cert.ReferenceIdeal.Gen.facts)
    (hPre_segments := Cert.Pre_segments.Gen.facts) := fun m g _ =>
  (θ_run (Cert.ReferenceIdeal.defs (F := Ideal)) _ _).mono
    (fun r h => ⟨fun c => (h c).2.2.2.2.2, Idealize.ShloMosaic.sem_eq_zero_of_no_sems (by decide) r.2⟩)
    (ReferenceRun.run m g)

theorem constants : Cert.preserves_Kernel_KernelIdeal :=
  ⟨IdealRules.named_const.statement _ _ _ _ _ rfl, IdealRules.named_const.statement _ _ _ _ _ rfl⟩

end Cert.Proof
-- ==== Proof.Reads.lean ====
module
public import Idealize.ShloMosaic.Lib.Routing.Ops
public import Idealize.ShloMosaic.Lib.Routing.OpsOrder
public import Idealize.ShloMosaic.Lib.ReduceAll
public import Idealize.ShloMosaic.Lib.IdealHost
@[expose] public section

/-! # Host operations read at an index

Words that wrap when negative, tables read at such words, the indices a reduction along the second axis runs over, and
folds by maximum and by minimum bounded from both sides. -/

noncomputable section

namespace Cert.Proof.Meaning

open Idealize.ShloMosaic Idealize.ShloMosaic.StableHlo.Predicate Idealize.ShloMosaic.Routing
open Idealize.ShloMosaic.ValueIdx (ix0 ix1 ix2)

/-! ## Operations on exact floats, element by element -/

section

variable {s : Shape} {φ : FTy}

theorem addf_at (x y : FVec Ideal s φ) (i : s.Idx) : addf x y i = (x i + y i : EReal) := rfl
theorem subf_at (x y : FVec Ideal s φ) (i : s.Idx) : subf x y i = (x i - y i : EReal) := rfl
theorem mulf_at (x y : FVec Ideal s φ) (i : s.Idx) : mulf x y i = (x i * y i : EReal) := rfl
theorem divf_at (x y : FVec Ideal s φ) (i : s.Idx) : divf x y i = Ideal.div (x i) (y i) := rfl
theorem maximumf_at (x y : FVec Ideal s φ) (i : s.Idx) : maximumf x y i = (max (x i) (y i) : EReal) := rfl
theorem exp_at (x : FVec Ideal s φ) (i : s.Idx) : exp x i = Ideal.exp (x i) := rfl
theorem hostDivf_at (x y : FVec Ideal s φ) (i : s.Idx) : Host.divf x y i = Ideal.div (x i) (y i) := rfl
theorem hostExp_at (x : FVec Ideal s φ) (i : s.Idx) : Host.exp x i = Ideal.exp (x i) := rfl
theorem hostLog_at (x : FVec Ideal s φ) (i : s.Idx) : Host.log x i = Ideal.log (x i) := rfl
theorem hostTanh_at (x : FVec Ideal s φ) (i : s.Idx) : Host.tanh x i = Ideal.tanh (x i) := rfl
theorem hostNegf_at (x : FVec Ideal s φ) (i : s.Idx) : Host.negf x i = (-(x i) : EReal) := rfl
theorem cmpf_at (p : CmpFPredicate) (x y : FVec Ideal s φ) (i : s.Idx) : cmpf p x y i = Ideal.cmp p (x i) (y i) := rfl
theorem uitofp_at {w : Nat} (x : IVec s w) (i : s.Idx) : (uitofp φ x : FVec Ideal s φ) i = (((x i).toNat : ℝ) : EReal) := rfl
theorem select_at {α : Type} (x : IVec s 1) (y z : s.Idx → α) (i : s.Idx) : select x y z i = Scalar.select (x i) (y i) (z i) := rfl

end

/-! ## Words -/

/-- Both bits of a conjunction that is 1 are 1. -/
theorem and_one : ∀ x y : BitVec 1, IntOp.andi x y = 1#1 → x = 1#1 ∧ y = 1#1 := by decide

theorem toInt_small {a : BitVec 32} {n : Nat} (ha : a.toNat < n) (hn : n ≤ 2 ^ 31) : a.toInt = a.toNat :=
  toInt_eq_toNat_of_lt (by omega)

/-- A word that is at least 0 and below a small bound, both read signed, is below it unsigned. -/
theorem lt_of_signed {a b : BitVec 32} (hb : b.toNat < 2 ^ 31) (h0 : IntOp.cmpi .sge a 0#32 = 1#1) (h1 : IntOp.cmpi .slt a b = 1#1) :
    a.toNat < b.toNat := by
  have hb' : b.toInt = b.toNat := toInt_eq_toNat_of_lt hb
  simp only [IntOp.cmpi, BitVec.sle, BitVec.slt, ofBool_eq_one_iff, decide_eq_true_eq] at h0 h1
  rw [hb'] at h1
  have h2 : (0#32 : BitVec 32).toInt = 0 := by decide
  rw [h2] at h0
  have := BitVec.toInt_eq_toNat_cond a
  split at this <;> omega

/-- A small word is not negative, so the wrapped word is the word. -/
theorem wrap_apply {s : Shape} (x z k : IVec s 32) (i : s.Idx) (hz : z i = 0#32) (hx : (x i).toNat < 2 ^ 31) :
    select (cmpi .slt x z) (addi x k) x i = x i := by
  show Scalar.select (IntOp.cmpi .slt (x i) (z i)) (x i + k i) (x i) = x i
  have h : ¬ IntOp.cmpi .slt (x i) (z i) = 1#1 := by
    rw [hz, slt_iff_toNat hx (by decide)]
    exact Nat.not_lt_zero _
  rw [ValueIdx.eq_zero_of_ne_one h]
  rfl

/-! ## Tables -/

/-- A table read at a column of small words reads the entry the word names. -/
theorem take_at {α : Type} {N n : Nat} (d : GatherDims ⟨1, ![N]⟩ ⟨2, ![n, 1]⟩ ⟨1, ![n]⟩) (hcoll : d.collapsedSliceDims = [0])
    (hob : d.operandBatchingDims = []) (hsim : d.startIndexMap = [0]) (hivd : d.indexVectorDim = 1) (x : (⟨1, ![N]⟩ : Shape).Idx → α)
    (hb : (⟨1, ![n]⟩ : Shape).BroadcastsInDim ⟨2, ![n, 1]⟩ ![0]) (w : IVec ⟨1, ![n]⟩ 32) (p : Fin n) (b : Fin N)
    (hw : (w (Shape.Idx.ofFin p)).toNat = b.val) (hN : N ≤ 2 ^ 31) :
    Host.gather d x (broadcastInDim ⟨2, ![n, 1]⟩ ![0] hb w) (Shape.Idx.ofFin p) = x (Shape.Idx.ofFin b) := by
  rw [gather_take d hcoll hob hsim hivd x _ p (by have := b.isLt; omega)]
  refine congrArg (fun k => x (Shape.Idx.ofFin k)) (Fin.ext ?_)
  have hlt := b.isLt
  show min (broadcastInDim ⟨2, ![n, 1]⟩ ![0] hb w (ixP p)).toInt.toNat (N - 1) = b.val
  rw [bcast_col1 hb w p, toInt_small (a := w (Shape.Idx.ofFin p)) (n := N) (by omega) hN, hw]
  omega

/-- The rows of a table read at a column of small words. -/
theorem row_at {α : Type} {N n B : Nat} (d : GatherDims ⟨2, ![N, B]⟩ ⟨2, ![n, 1]⟩ ⟨2, ![n, B]⟩) (hoff : d.offsetDims = [1])
    (hcoll : d.collapsedSliceDims = [0]) (hob : d.operandBatchingDims = []) (hsim : d.startIndexMap = [0]) (hivd : d.indexVectorDim = 1)
    (x : (⟨2, ![N, B]⟩ : Shape).Idx → α) (hb : (⟨1, ![n]⟩ : Shape).BroadcastsInDim ⟨2, ![n, 1]⟩ ![0]) (w : IVec ⟨1, ![n]⟩ 32)
    (p : Fin n) (q : Fin B) (b : Fin N) (hw : (w (Shape.Idx.ofFin p)).toNat = b.val) (hN : N < 2 ^ 31) :
    Host.gather d x (broadcastInDim ⟨2, ![n, 1]⟩ ![0] hb w) (ix2 p q) = x (ix2 b q) := by
  refine gather_row d hoff hcoll hob hsim hivd x _ p q b ?_ hN
  rw [← ixP_eq_ix2, bcast_col1 hb w p]
  apply BitVec.eq_of_toNat_eq
  rw [hw, BitVec.toNat_ofNat]
  exact (Nat.mod_eq_of_lt (by have := b.isLt; omega)).symm

/-- The first entries of a longer table. -/
theorem head_at {α : Type} {N n : Nat} (h : (⟨1, ![N]⟩ : Shape).Slices ![0] ⟨1, ![n]⟩) (x : (⟨1, ![N]⟩ : Shape).Idx → α) (p : Fin n)
    (hp : p.val < N) : extractStridedSlice ⟨1, ![n]⟩ ![0] x h (Shape.Idx.ofFin p) = x (Shape.Idx.ofFin ⟨p.val, hp⟩) := by
  unfold extractStridedSlice
  refine congrArg x (funext fun a => Fin.ext ?_)
  obtain rfl : a = 0 := Subsingleton.elim _ _
  show 0 + p.val = p.val
  omega

/-! ## A reduction along the second axis -/

/-- The indices that a reduction along the second axis takes to `j` are those of row `j`. -/
theorem drop_row {n m : Nat} (h : (⟨2, ![n, m]⟩ : Shape).ReducesTo [1] ⟨1, ![n]⟩) (i : (⟨2, ![n, m]⟩ : Shape).Idx)
    (j : (⟨1, ![n]⟩ : Shape).Idx) : h.drop i = j ↔ i 0 = j 0 := by
  have hv : (h.drop i 0 : Nat) = i 0 := Shape.ReducesTo.drop_apply_val h i 0
  refine ⟨fun e => Fin.ext (by rw [← hv, e]), fun e => funext fun b => ?_⟩
  obtain rfl : b = 0 := Subsingleton.elim _ _
  exact Fin.ext (by rw [hv, e])

/-! ## Folds -/

theorem foldl_max_le {ι : Type} (x : ι → EReal) (c : EReal) :
    ∀ (l : List ι) (r : EReal), r ≤ c → (∀ i ∈ l, x i ≤ c) → l.foldl (fun r i => max r (x i)) r ≤ c
  | [], _, hr, _ => hr
  | a :: l, _, hr, hx => foldl_max_le x c l _ (max_le hr (hx a (List.mem_cons_self ..))) fun i hi => hx i (List.mem_cons_of_mem _ hi)

theorem le_foldl_max {ι : Type} (x : ι → EReal) (c : EReal) :
    ∀ (l : List ι) (r : EReal), (c ≤ r ∨ ∃ i ∈ l, c ≤ x i) → c ≤ l.foldl (fun r i => max r (x i)) r
  | [], _, .inl h => h
  | a :: l, r, h => by
    refine le_foldl_max x c l _ ?_
    rcases h with h | ⟨i, hi, h⟩
    · exact .inl (le_max_of_le_left h)
    · rcases List.mem_cons.1 hi with rfl | hi
      · exact .inl (le_max_of_le_right h)
      · exact .inr ⟨i, hi, h⟩

/-- A maximum along the rows is at most a bound of the row's elements. -/
theorem rowMax_le {n m : Nat} {u : Shape} (h : (⟨2, ![n, m]⟩ : Shape).ReducesTo [1] ⟨1, ![n]⟩) (hu : 0 < u.numel)
    (x : (⟨2, ![n, m]⟩ : Shape).Idx → EReal) (init : u.Idx → EReal) (p : Fin n) (c : EReal) (hi : init (Shape.Idx.first hu) ≤ c)
    (hx : ∀ q, x (ix2 p q) ≤ c) :
    Host.reduce (FloatOps.maximumf (F := Ideal) (φ := .f32)) x init h hu (Shape.Idx.ofFin p) ≤ c := by
  rw [Host.reduce_eq_foldl]
  refine foldl_max_le x c _ _ hi fun i hi => ?_
  have e := (drop_row h i _).1 (of_decide_eq_true (List.mem_filter.1 hi).2)
  rw [ValueIdx.eq_ix2 i]
  have e' : i 0 = p := e.trans (Shape.Idx.ofFin_zero p)
  exact e' ▸ hx (i 1)

/-- and at least every one of them. -/
theorem le_rowMax {n m : Nat} {u : Shape} (h : (⟨2, ![n, m]⟩ : Shape).ReducesTo [1] ⟨1, ![n]⟩) (hu : 0 < u.numel)
    (x : (⟨2, ![n, m]⟩ : Shape).Idx → EReal) (init : u.Idx → EReal) (p : Fin n) (c : EReal) (q : Fin m) (hx : c ≤ x (ix2 p q)) :
    c ≤ Host.reduce (FloatOps.maximumf (F := Ideal) (φ := .f32)) x init h hu (Shape.Idx.ofFin p) := by
  rw [Host.reduce_eq_foldl]
  refine le_foldl_max x c _ _ (.inr ⟨ix2 p q, ?_, hx⟩)
  refine List.mem_filter.2 ⟨List.mem_map.2 ⟨(⟨2, ![n, m]⟩ : Shape).rowMajor (ix2 p q), List.mem_finRange _, Equiv.symm_apply_apply _ _⟩, decide_eq_true ?_⟩
  exact (drop_row h _ _).2 (Shape.Idx.ofFin_zero p).symm

/-- The lesser of two words, read signed. -/
theorem toInt_minsi (a b : BitVec 32) : (IntOp.minsi a b).toInt = min a.toInt b.toInt := by
  unfold IntOp.minsi
  split
  · next h => rw [BitVec.slt, decide_eq_true_eq] at h; omega
  · next h => rw [BitVec.slt, decide_eq_true_eq] at h; omega

/-- A fold by the lesser word over the positions that hit is the least of the words there. -/
theorem foldl_min_eq {ι : Type} (hit : ι → Prop) [DecidablePred hit] (u : ι → BitVec 32) (c : BitVec 32) :
    ∀ (l : List ι) (r : BitVec 32), c.toInt ≤ r.toInt → (∀ n ∈ l, hit n → c.toInt ≤ (u n).toInt) → (r = c ∨ ∃ n ∈ l, hit n ∧ u n = c) →
      l.foldl (fun a n => if hit n then IntOp.minsi a (u n) else a) r = c
  | [], _, _, _, .inl h => h
  | a :: l, r, hr, hu, h => by
    have step : c.toInt ≤ (if hit a then IntOp.minsi r (u a) else r).toInt := by
      split
      · next ha => rw [toInt_minsi]; exact le_min hr (hu a (List.mem_cons_self ..) ha)
      · exact hr
    refine foldl_min_eq hit u c l _ step (fun n hn => hu n (List.mem_cons_of_mem _ hn)) ?_
    rcases h with rfl | ⟨n, hn, hh, e⟩
    · refine .inl ?_
      show (if hit a then IntOp.minsi r (u a) else r) = r
      split
      · next ha =>
        apply BitVec.eq_of_toInt_eq
        rw [toInt_minsi]
        exact min_eq_left (hu a (List.mem_cons_self ..) ha)
      · rfl
    · rcases List.mem_cons.1 hn with rfl | hn
      · refine .inl ?_
        show (if hit n then IntOp.minsi r (u n) else r) = c
        rw [if_pos hh]
        apply BitVec.eq_of_toInt_eq
        rw [toInt_minsi, e]
        exact min_eq_right hr
      · exact .inr ⟨n, hn, hh, e⟩

/-! ## Where an update lands -/

/-- Update `i`, one word each, into a table of `N` entries lands at entry `x` when its word is `x`. -/
theorem lands_iff {N M : Nat} (d : ScatterDims ⟨1, ![N]⟩ ⟨2, ![M, 1]⟩ ⟨1, ![M]⟩) (hiw : d.insertedWindowDims = [0])
    (hsd : d.scatterDimsToOperandDims = [0]) (hivd : d.indexVectorDim = 1) (idx : IVec ⟨2, ![M, 1]⟩ 32) (i : Fin M) (x : Fin N) :
    d.resultIdx? (Shape.Idx.ofFin i) idx = some (Shape.Idx.ofFin x) ↔ (idx (ixP i)).toInt = (x.val : Int) := by
  have hm : (0 : Fin 1) ∈ d.scatterDimsToOperandDims := hsd ▸ List.mem_singleton_self _
  have hw : ∀ a, (d.window (Shape.Idx.ofFin i) a : Int) = 0 := fun a => by
    obtain rfl : a = 0 := Subsingleton.elim _ _
    unfold ScatterDims.window
    have hk : (0 : Fin 1) ∉ d.sKept := fun h => (of_decide_eq_true (List.mem_filter.1 h).2 : (0 : Fin 1) ∉ d.insertedWindowDims) (hiw ▸ List.mem_singleton_self _)
    rw [dif_neg hk]
    rfl
  have hsi : ∀ k, k.val = 0 → d.siIdx (Shape.Idx.ofFin i) k = ixP i := fun k hk => by
    funext b
    refine Fin.ext ?_
    match b with
    | ⟨0, _⟩ =>
      unfold ScatterDims.siIdx
      rw [dif_neg (by rw [hivd]; exact Nat.zero_ne_one)]
      unfold ScatterDims.siCoord
      rw [Fin.val_cast]
      have e : ∀ y : Fin 1, ((Shape.Idx.ofFin i : (⟨1, ![M]⟩ : Shape).Idx) y).val = i.val := fun y => by
        obtain rfl : y = 0 := Subsingleton.elim _ _
        rfl
      exact e _
    | ⟨1, _⟩ =>
      unfold ScatterDims.siIdx
      rw [dif_pos hivd.symm]
      exact hk
  have hs : ∀ a, d.start (Shape.Idx.ofFin i) idx a = (idx (ixP i)).toInt := fun a => by
    obtain rfl : a = 0 := Subsingleton.elim _ _
    unfold ScatterDims.start
    rw [dif_pos hm, hsi _ (by show List.idxOf (0 : Fin 1) d.scatterDimsToOperandDims = 0; rw [hsd]; rfl)]
  have hx := x.isLt
  have hsz : ∀ a : Fin 1, ((⟨1, ![N]⟩ : Shape).size a : Int) = N := fun a => by
    obtain rfl : a = 0 := Subsingleton.elim _ _
    rfl
  unfold ScatterDims.resultIdx?
  split
  · next h =>
    have h0 := h 0
    rw [hs, hw] at h0
    constructor
    · intro e
      have e0 := congrArg (fun y : (⟨1, ![N]⟩ : Shape).Idx => (y 0).val) (Option.some.inj e)
      change (d.start (Shape.Idx.ofFin i) idx 0 + (d.window (Shape.Idx.ofFin i) 0 : Int)).toNat = x.val at e0
      rw [hs, hw] at e0
      omega
    · intro e
      refine congrArg some (funext fun a => Fin.ext ?_)
      obtain rfl : a = 0 := Subsingleton.elim _ _
      show (d.start (Shape.Idx.ofFin i) idx 0 + (d.window (Shape.Idx.ofFin i) 0 : Int)).toNat = x.val
      rw [hs, hw]
      omega
  · next h =>
    refine ⟨fun e => (nomatch e), fun e => (h fun a => ?_).elim⟩
    rw [hs, hw, hsz]
    omega

end Cert.Proof.Meaning
-- ==== Proof.Segments.lean ====
module
public import proofs.«01_k».proof.Defs
public import proofs.«01_k».proof.Proof.Gen.Pre_segments
public import proofs.«01_k».proof.Proof.Reads
@[expose] public section

/-! # The precondition in plain terms

Every atom names a segment, every segment names the first of its atoms. -/

noncomputable section

namespace Cert.Proof.Meaning

open Idealize.ShloMosaic Idealize.ShloMosaic.StableHlo.Predicate
open Idealize.ShloMosaic.ValueIdx (ix0 ix1 ix2)

/-- The segment `b i` of every atom, and the first atom `f g` of every segment. -/
structure Segments (b : (⟨1, ![1600000]⟩ : Shape).Idx → BitVec 32) (f : (⟨1, ![100001]⟩ : Shape).Idx → BitVec 32) : Prop where
  seg_lt : ∀ i : Fin 1600000, (b (Shape.Idx.ofFin i)).toNat < 100000
  first_lt : ∀ g : Fin 100000, (f (Shape.Idx.ofFin ⟨g.val, by omega⟩)).toNat < 1600000
  first_in : ∀ (g : Fin 100000) (i : Fin 1600000), (f (Shape.Idx.ofFin ⟨g.val, by omega⟩)).toNat = i.val → (b (Shape.Idx.ofFin i)).toNat = g.val
  first_le : ∀ (g : Fin 100000) (i : Fin 1600000), (b (Shape.Idx.ofFin i)).toNat = g.val → (f (Shape.Idx.ofFin ⟨g.val, by omega⟩)).toNat ≤ i.val

open Cert.Pre_segments Cert.Pre_segments.Gen in
theorem segments_of_pre (a0 a1 : IVec S1600000 32) (a2 : IVec S100001 32) (a3 : IVec S100000x10 32) (a4 : FVec Ideal S1x1 .f32)
    (a5 : FVec Ideal S1 .f32) (a6 : FVec Ideal S1x3 .f32) (h : Cert.Pre_segments.fn (F := Ideal) a0 a1 a2 a3 a4 a5 a6 = fun _ => 1#1) :
    Segments a1 a2 := by
  have h0 := congrFun h ix0
  obtain ⟨h12, h3⟩ := and_one _ _ h0
  obtain ⟨h1, h2⟩ := and_one _ _ h12
  obtain ⟨hb, hf⟩ := and_one _ _ h1
  have sub : Subsingleton S_.Idx := ⟨fun x y => funext fun a => a.elim0⟩
  have seg_lt : ∀ i : Fin 1600000, (a1 (Shape.Idx.ofFin i)).toNat < 100000 := fun i => by
    obtain ⟨p, q⟩ := and_one _ _ (Host.reduce_andi_all _ _ _ _ _ hb (Shape.Idx.ofFin i))
    exact lt_of_signed (b := 100000#32) (by decide) p q
  have first_lt : ∀ g : Fin 100000, (a2 (Shape.Idx.ofFin ⟨g.val, by omega⟩)).toNat < 1600000 := fun g => by
    obtain ⟨p, q⟩ := and_one _ _ (Host.reduce_andi_all _ _ _ _ _ hf (Shape.Idx.ofFin g))
    rw [← head_at Facts.slices_S100001_S100000_0 a2 g (by omega)]
    exact lt_of_signed (b := 1600000#32) (by decide) p q
  refine ⟨seg_lt, first_lt, fun g i e => ?_, fun g i e => ?_⟩
  · have p : IntOp.cmpi .eq (Host.gather gather_S1600000_S100000x1_S100000_n_0_n_n_0_1_1 a1
        (broadcastInDim S100000x1 ![0] Facts.bcast_S100000_S100000x1_0
          (select (cmpi .slt (extractStridedSlice S100000 ![0] a2 Facts.slices_S100001_S100000_0) (broadcastInDim S100000 ![] Facts.bcast_S_S100000 (constantI S_ 32 0#32)))
            (addi (extractStridedSlice S100000 ![0] a2 Facts.slices_S100001_S100000_0) (broadcastInDim S100000 ![] Facts.bcast_S_S100000 (constantI S_ 32 1600000#32)))
            (extractStridedSlice S100000 ![0] a2 Facts.slices_S100001_S100000_0))) (Shape.Idx.ofFin g)) (BitVec.ofNat 32 g.val) = 1#1 :=
      Host.reduce_andi_all _ _ _ _ _ h2 (Shape.Idx.ofFin g)
    have hg := head_at Facts.slices_S100001_S100000_0 a2 g (by omega)
    rw [take_at (N := 1600000) (n := 100000) _ rfl rfl rfl rfl a1 _ _ g i
      (by rw [wrap_apply _ _ _ _ rfl (by rw [hg]; have := first_lt g; omega), hg]; exact e) (by decide), cmpi_eq_iff] at p
    rw [p, BitVec.toNat_ofNat]
    exact Nat.mod_eq_of_lt (by omega)
  · have p : IntOp.cmpi .sle (Host.gather gather_S100000_S1600000x1_S1600000_n_0_n_n_0_1_1 (extractStridedSlice S100000 ![0] a2 Facts.slices_S100001_S100000_0)
        (broadcastInDim S1600000x1 ![0] Facts.bcast_S1600000_S1600000x1_0
          (select (cmpi .slt a1 (broadcastInDim S1600000 ![] Facts.bcast_S_S1600000 (constantI S_ 32 0#32)))
            (addi a1 (broadcastInDim S1600000 ![] Facts.bcast_S_S1600000 (constantI S_ 32 100000#32))) a1)) (Shape.Idx.ofFin i)) (BitVec.ofNat 32 i.val) = 1#1 :=
      Host.reduce_andi_all _ _ _ _ _ h3 (Shape.Idx.ofFin i)
    have hg := head_at Facts.slices_S100001_S100000_0 a2 g (by omega)
    have hi : (BitVec.ofNat 32 i.val).toNat = i.val := by rw [BitVec.toNat_ofNat]; exact Nat.mod_eq_of_lt (by omega)
    rw [take_at (N := 100000) (n := 1600000) _ rfl rfl rfl rfl _ _ _ i g
      (by rw [wrap_apply _ _ _ _ rfl (by have := seg_lt i; omega)]; exact e) (by decide), hg,
      sle_iff_toNat (by have := first_lt g; omega) (by rw [hi]; omega), hi] at p
    exact p

end Cert.Proof.Meaning
-- ==== Proof.Focus.lean ====
module
public import proofs.«01_k».proof.Proof.ReferenceRun
public import proofs.«01_k».proof.Proof.Segments
@[expose] public section

/-! # The reference's focus is zero

All atoms of a segment have the same weight, so all of them attain their segment's maximum, and the first of them is the
segment's first atom. -/

noncomputable section

namespace Cert.Proof.Meaning

open Cert.ReferenceIdeal Cert.ReferenceIdeal.Gen Cert.Proof.ReferenceRun
open Idealize.ShloMosaic Idealize.ShloMosaic.StableHlo Idealize.ShloMosaic.StableHlo.Predicate Idealize.ShloMosaic.Routing
open Idealize.ShloMosaic.ValueIdx (ix0 ix1 ix2)

/-- The word of minus infinity. -/
theorem minus_inf : Ideal.ofBits .f32 0xFF800000#32 = (⊥ : EReal) := by
  simp [Ideal.ofBits, Ideal.ieee]

theorem v0_at (A : Args Ideal) (j : S1600000.Idx) : v0 A j = Ideal.ofBits .f32 0x3F800000#32 := rfl

theorem v18_at (A : Args Ideal) (j : S1600000.Idx) : v18 A j = Ideal.exp (v0 A j - v16 A j : EReal) := by
  rw [v18, v17, hostExp_at, subf_at]

theorem v29_at (A : Args Ideal) (j : S1600000.Idx) : v29 A j = Ideal.div (v18 A j) (v28 A j) := by
  rw [v29, hostDivf_at]

theorem v37_at (A : Args Ideal) (j : S100000x1600000.Idx) :
    v37 A j = Scalar.select (IntOp.cmpi .eq (v33 A j) (v34 A j)) (call1_v1 A j) (Ideal.ofBits .f32 0xFF800000#32) := rfl

theorem v46_at (A : Args Ideal) (j : S1600000.Idx) : v46 A j = Ideal.cmp .oge (v29 A j) (v45 A j) := by
  rw [v46, cmpf_at]

theorem v48_at (A : Args Ideal) (j : S1600000.Idx) : v48 A j = Scalar.select (v46 A j) (v47 A j) (call2_v1 A j) := rfl

/-- A one-entry table of segments read at an atom's wrapped segment. -/
theorem seg_take {α : Type} {A : Args Ideal} (S : Segments A.arg1 A.arg2) (x : S100000.Idx → α) (z k : IVec S1600000 32)
    (hz : ∀ i, z i = 0#32) (i : Fin 1600000) (g : Fin 100000) (hg : (A.arg1 (Shape.Idx.ofFin i)).toNat = g.val) :
    Host.gather gather_S100000_S1600000x1_S1600000_n_0_n_n_0_1_1 x
      (broadcastInDim S1600000x1 ![0] bcast_S1600000_S1600000x1_0 (select (cmpi .slt A.arg1 z) (addi A.arg1 k) A.arg1)) (Shape.Idx.ofFin i)
      = x (Shape.Idx.ofFin g) :=
  take_at (N := 100000) (n := 1600000) _ rfl rfl rfl rfl x _ _ i g
    (by rw [wrap_apply _ _ _ _ (hz _) (by have := S.seg_lt i; omega)]; exact hg) (by decide)

section

variable {A : Args Ideal} (S : Segments A.arg1 A.arg2)
include S

/-- The exponential of an atom's energy depends on its segment only. -/
theorem v18_congr (i k : Fin 1600000) (h : (A.arg1 (Shape.Idx.ofFin i)).toNat = (A.arg1 (Shape.Idx.ofFin k)).toNat) :
    v18 A (Shape.Idx.ofFin i) = v18 A (Shape.Idx.ofFin k) := by
  have e : v16 A (Shape.Idx.ofFin i) = v16 A (Shape.Idx.ofFin k) := by
    have hi := seg_take S (v9 A) (v10 A) (v12 A) (fun _ => rfl) i ⟨_, S.seg_lt i⟩ rfl
    have hk := seg_take S (v9 A) (v10 A) (v12 A) (fun _ => rfl) k ⟨_, S.seg_lt i⟩ h.symm
    exact hi.trans hk.symm
  rw [v18_at, v18_at, e, v0_at, v0_at]

/-- So does its weight. -/
theorem v29_congr (i k : Fin 1600000) (h : (A.arg1 (Shape.Idx.ofFin i)).toNat = (A.arg1 (Shape.Idx.ofFin k)).toNat) :
    v29 A (Shape.Idx.ofFin i) = v29 A (Shape.Idx.ofFin k) := by
  have e : v28 A (Shape.Idx.ofFin i) = v28 A (Shape.Idx.ofFin k) := by
    have hi := seg_take S (v21 A) (v22 A) (v24 A) (fun _ => rfl) i ⟨_, S.seg_lt i⟩ rfl
    have hk := seg_take S (v21 A) (v22 A) (v24 A) (fun _ => rfl) k ⟨_, S.seg_lt i⟩ h.symm
    exact hi.trans hk.symm
  rw [v29_at, v29_at, e, v18_congr S i k h]

/-- The maximum of a segment's weights is at most the weight of any of its atoms. -/
theorem v45_le (i : Fin 1600000) : (v45 A (Shape.Idx.ofFin i) : EReal) ≤ v29 A (Shape.Idx.ofFin i) := by
  obtain ⟨g, hg⟩ : ∃ g : Fin 100000, (A.arg1 (Shape.Idx.ofFin i)).toNat = g.val := ⟨⟨_, S.seg_lt i⟩, rfl⟩
  have e : v45 A (Shape.Idx.ofFin i) = v38 A (Shape.Idx.ofFin g) := seg_take S (v38 A) (v39 A) (v41 A) (fun _ => rfl) i g hg
  rw [e]
  refine rowMax_le reducesTo_S100000x1600000_S100000_d1 h_S_ (v37 A) (cst_7 A) g _ ?_ fun k => ?_
  · show Ideal.ofBits .f32 0xFF800000#32 ≤ _
    rw [minus_inf]
    exact bot_le
  · have h33 : v33 A (ix2 g k) = BitVec.ofNat 32 g.val :=
      (bcast_rows bcast_S100000_S100000x1_0 bcast_S100000x1_S100000x1600000_0_1 (v30 A) g k).trans (iota_apply _)
    have h34 : v34 A (ix2 g k) = A.arg1 (Shape.Idx.ofFin k) :=
      bcast_cols bcast_S1600000_S1x1600000_1 bcast_S1x1600000_S100000x1600000_0_1 A.arg1 g k
    have h36 : call1_v1 A (ix2 g k) = v29 A (Shape.Idx.ofFin k) :=
      bcast_cols bcast_S1600000_S1x1600000_1 bcast_S1x1600000_S100000x1600000_0_1 (v29 A) g k
    rw [v37_at, h33, h34, h36]
    by_cases hs : IntOp.cmpi .eq (BitVec.ofNat 32 g.val) (A.arg1 (Shape.Idx.ofFin k)) = 1#1
    · rw [hs, ValueIdx.select_one]
      rw [cmpi_eq_iff] at hs
      refine le_of_eq (v29_congr S k i ?_)
      rw [← hs, hg, BitVec.toNat_ofNat]
      exact Nat.mod_eq_of_lt (by omega)
    · rw [ValueIdx.eq_zero_of_ne_one hs, ValueIdx.select_zero, minus_inf]
      exact bot_le

/-- Every atom names itself. -/
theorem v48_eq (i : Fin 1600000) : v48 A (Shape.Idx.ofFin i) = BitVec.ofNat 32 i.val := by
  have h : v46 A (Shape.Idx.ofFin i) = 1#1 := by
    rw [v46_at]
    rw [Ideal.cmp, ofBool_eq_one_iff, decide_eq_true_eq]
    exact v45_le S i
  have h7 : v47 A (Shape.Idx.ofFin i) = BitVec.ofNat 32 i.val := iota_apply i
  rw [v48_at, h, h7, ValueIdx.select_one]

/-- The first atom that a segment selects is the segment's first. -/
theorem v51_eq (g : Fin 100000) : v51 A (Shape.Idx.ofFin g) = A.arg2 (Shape.Idx.ofFin ⟨g.val, by omega⟩) := by
  have hf := S.first_lt g
  have land : ∀ i : Fin 1600000, scatter_S100000_S1600000x1_S1600000_n_0_0_1.resultIdx? (Shape.Idx.ofFin i) (v50 A) = some (Shape.Idx.ofFin g)
      ↔ (A.arg1 (Shape.Idx.ofFin i)).toNat = g.val := fun i => by
    rw [lands_iff (N := 100000) (M := 1600000) scatter_S100000_S1600000x1_S1600000_n_0_0_1 rfl rfl rfl (v50 A) i g]
    have e : v50 A (ixP i) = A.arg1 (Shape.Idx.ofFin i) := bcast_col1 bcast_S1600000_S1600000x1_0 A.arg1 i
    rw [e, toInt_small (S.seg_lt i) (by decide)]
    omega
  have word : ∀ i : Fin 1600000, (v48 A (Shape.Idx.ofFin i)).toInt = i.val := fun i => by
    rw [v48_eq S i, toInt_ofNat_small _ (by have := i.isLt; omega)]
  have hfi : (A.arg2 (Shape.Idx.ofFin ⟨g.val, by omega⟩)).toInt = (A.arg2 (Shape.Idx.ofFin ⟨g.val, by omega⟩)).toNat :=
    toInt_small hf (by decide)
  have hfst : (A.arg1 (Shape.Idx.ofFin ⟨_, hf⟩)).toNat = g.val := S.first_in g ⟨_, hf⟩ rfl
  refine (congrFun (scatterIn_finRange scatter_S100000_S1600000x1_S1600000_n_0_0_1 IntOp.minsi (v49 A) (v50 A) (v48 A)) _).symm.trans ?_
  rw [scatterIn_at]
  refine foldl_min_eq (fun n => scatter_S100000_S1600000x1_S1600000_n_0_0_1.resultIdx? (S1600000.rowMajor.symm n) (v50 A) = some (Shape.Idx.ofFin g))
    (fun n => v48 A (S1600000.rowMajor.symm n)) _ _ _ ?_ (fun n _ hn => ?_)
    (.inr ⟨S1600000.rowMajor (Shape.Idx.ofFin ⟨_, hf⟩), List.mem_finRange _, ?_, ?_⟩)
  · show _ ≤ (2147483647#32 : BitVec 32).toInt
    have h2 : (2147483647#32 : BitVec 32).toInt = 2147483647 := by decide
    rw [hfi, h2]
    omega
  · obtain ⟨i, hi⟩ : ∃ i : Fin 1600000, S1600000.rowMajor.symm n = Shape.Idx.ofFin i := ⟨_, Shape.Idx.eq_ofFin _⟩
    rw [hi] at hn ⊢
    rw [hfi, word i]
    exact_mod_cast S.first_le g i ((land i).1 hn)
  · rw [Equiv.symm_apply_apply]
    exact (land _).2 hfst
  · show v48 A (S1600000.rowMajor.symm _) = _
    rw [Equiv.symm_apply_apply]
    apply BitVec.eq_of_toInt_eq
    rw [word, hfi]

/-- The focus is zero. -/
theorem focus_zero (g : Fin 100000) : v53 A (Shape.Idx.ofFin g) = 0#32 := by
  show v51 A (Shape.Idx.ofFin g) - v52 A (Shape.Idx.ofFin g) = 0#32
  have e : v52 A (Shape.Idx.ofFin g) = A.arg2 (Shape.Idx.ofFin ⟨g.val, by omega⟩) := head_at slices_S100001_S100000_0 A.arg2 g (by omega)
  rw [v51_eq S g, e]
  exact BitVec.sub_self _

end

end Cert.Proof.Meaning
-- ==== Proof.Element.lean ====
module
public import proofs.«01_k».proof.Proof.Focus
public import proofs.«01_k».proof.Proof.KernelIdealValues
@[expose] public section

/-! # The reference's element is the kernel's

At the first atom of a segment the weights are one positive number at the elements still in the bag and zero at the others,
so their maximum is first attained at the first element still in the bag, and at element 0 when the bag is empty. -/

noncomputable section

namespace Cert.Proof.Meaning

open Cert.ReferenceIdeal Cert.ReferenceIdeal.Gen Cert.Proof.ReferenceRun
open Idealize.ShloMosaic Idealize.ShloMosaic.StableHlo Idealize.ShloMosaic.StableHlo.Predicate Idealize.ShloMosaic.Routing
open Idealize.ShloMosaic.ValueIdx (ix0 ix1 ix2)

/-! ## The first positive word -/

/-- Whether a word is positive. -/
abbrev Pos (w : BitVec 32) : Prop := IntOp.cmpi .sgt w 0#32 = 1#1

/-- The first of the `n` words from position `k` on that is positive, 0 where none is. -/
def firstFrom (P : Nat → BitVec 32) : Nat → Nat → BitVec 32
  | 0, _ => 0#32
  | n + 1, k => KernelIdealRun.pick (P k) (BitVec.ofNat 32 k) (firstFrom P n (k + 1))

theorem firstFrom_spec (P : Nat → BitVec 32) : ∀ n k : Nat,
    (∃ j, k ≤ j ∧ j < k + n ∧ Pos (P j) ∧ (∀ i, k ≤ i → i < j → ¬ Pos (P i)) ∧ firstFrom P n k = BitVec.ofNat 32 j)
    ∨ ((∀ i, k ≤ i → i < k + n → ¬ Pos (P i)) ∧ firstFrom P n k = 0#32)
  | 0, k => .inr ⟨fun i h h' => absurd h' (by omega), rfl⟩
  | n + 1, k => by
    by_cases h : Pos (P k)
    · refine .inl ⟨k, le_refl _, by omega, h, fun i hi hi' => absurd hi' (by omega), ?_⟩
      show Scalar.select (IntOp.cmpi .sgt (P k) 0#32) _ _ = _
      rw [show IntOp.cmpi .sgt (P k) 0#32 = 1#1 from h, ValueIdx.select_one]
    · have e : firstFrom P (n + 1) k = firstFrom P n (k + 1) := by
        show Scalar.select (IntOp.cmpi .sgt (P k) 0#32) _ _ = _
        rw [ValueIdx.eq_zero_of_ne_one h, ValueIdx.select_zero]
      rw [e]
      rcases firstFrom_spec P n (k + 1) with ⟨j, h1, h2, h3, h4, h5⟩ | ⟨h1, h2⟩
      · refine .inl ⟨j, by omega, by omega, h3, fun i hi hi' => ?_, h5⟩
        by_cases he : i = k
        · exact he ▸ h
        · exact h4 i (by omega) hi'
      · refine .inr ⟨fun i hi hi' => ?_, h2⟩
        by_cases he : i = k
        · exact he ▸ h
        · exact h1 i (by omega) (by omega)

theorem elemAt_spec (b : Fin 10 → BitVec 32) :
    (∃ k : Fin 10, Pos (b k) ∧ (∀ i, i < k → ¬ Pos (b i)) ∧ KernelIdealRun.elemAt b = BitVec.ofNat 32 k.val)
    ∨ ((∀ i, ¬ Pos (b i)) ∧ KernelIdealRun.elemAt b = 0#32) := by
  have e : KernelIdealRun.elemAt b = firstFrom (fun n => if h : n < 10 then b ⟨n, h⟩ else 0#32) 10 0 := rfl
  rw [e]
  have w : ∀ i : Fin 10, (fun n => if h : n < 10 then b ⟨n, h⟩ else 0#32) i.val = b i := fun i => dif_pos i.isLt
  rcases firstFrom_spec (fun n => if h : n < 10 then b ⟨n, h⟩ else 0#32) 10 0 with ⟨j, _, h2, h3, h4, h5⟩ | ⟨h1, h2⟩
  · have hj : j < 10 := by omega
    refine .inl ⟨⟨j, hj⟩, ?_, fun i hi => ?_, h5⟩
    · rw [← w ⟨j, hj⟩]
      exact h3
    · rw [← w i]
      exact h4 i.val (Nat.zero_le _) hi
  · refine .inr ⟨fun i => ?_, h2⟩
    rw [← w i]
    exact h1 i.val (Nat.zero_le _) (by have := i.isLt; omega)

/-! ## The fold that finds a maximum and where it is first attained -/

/-- Pair `x` does not displace `t`: its value is less, or the same at no earlier index. -/
def Below (t x : EReal × BitVec 32) : Prop := x.1 < t.1 ∨ (x.1 = t.1 ∧ t.2.toInt ≤ x.2.toInt)

/-- The reference's step on pairs of a value and an index. -/
abbrev step (a b : EReal × BitVec 32) : EReal × BitVec 32 := reducer_argmax_f32_i32 (F := Ideal) a b

theorem step_gt {a b : EReal × BitVec 32} (h : b.1 < a.1) : step a b = a := by
  have h1 : Ideal.cmp .ogt a.1 b.1 = 1#1 := by rw [Ideal.cmp, ofBool_eq_one_iff, decide_eq_true_eq]; exact h
  have h2 : Ideal.cmp .une a.1 a.1 = 0#1 := by simp [Ideal.cmp]
  have h3 : Ideal.cmp .oeq a.1 b.1 = 0#1 := by simp [Ideal.cmp, h.ne']
  show (Scalar.select (IntOp.ori (Ideal.cmp .ogt a.1 b.1) (Ideal.cmp .une a.1 a.1)) a.1 b.1,
    Scalar.select (IntOp.ori (IntOp.ori (Ideal.cmp .ogt a.1 b.1) (Ideal.cmp .une a.1 a.1))
      (IntOp.andi (Ideal.cmp .oeq a.1 b.1) (IntOp.cmpi .slt a.2 b.2))) a.2 b.2) = a
  rw [h1, h2, h3]
  generalize IntOp.cmpi .slt a.2 b.2 = z
  have e1 : IntOp.ori 1#1 0#1 = 1#1 := by decide
  have e2 : ∀ z : BitVec 1, IntOp.ori (IntOp.ori 1#1 0#1) (IntOp.andi 0#1 z) = 1#1 := by decide
  rw [e2, e1, ValueIdx.select_one, ValueIdx.select_one]

theorem step_lt {a b : EReal × BitVec 32} (h : a.1 < b.1) : step a b = b := by
  have h1 : Ideal.cmp .ogt a.1 b.1 = 0#1 := by rw [Ideal.cmp, decide_eq_false h.asymm]; rfl
  have h2 : Ideal.cmp .une a.1 a.1 = 0#1 := by simp [Ideal.cmp]
  have h3 : Ideal.cmp .oeq a.1 b.1 = 0#1 := by simp [Ideal.cmp, h.ne]
  show (Scalar.select (IntOp.ori (Ideal.cmp .ogt a.1 b.1) (Ideal.cmp .une a.1 a.1)) a.1 b.1,
    Scalar.select (IntOp.ori (IntOp.ori (Ideal.cmp .ogt a.1 b.1) (Ideal.cmp .une a.1 a.1))
      (IntOp.andi (Ideal.cmp .oeq a.1 b.1) (IntOp.cmpi .slt a.2 b.2))) a.2 b.2) = b
  rw [h1, h2, h3]
  generalize IntOp.cmpi .slt a.2 b.2 = z
  have e1 : IntOp.ori 0#1 0#1 = 0#1 := by decide
  have e2 : ∀ z : BitVec 1, IntOp.ori (IntOp.ori 0#1 0#1) (IntOp.andi 0#1 z) = 0#1 := by decide
  rw [e2, e1, ValueIdx.select_zero, ValueIdx.select_zero]

theorem step_eq {a b : EReal × BitVec 32} (h : a.1 = b.1) : step a b = (b.1, Scalar.select (IntOp.cmpi .slt a.2 b.2) a.2 b.2) := by
  have h1 : Ideal.cmp .ogt a.1 b.1 = 0#1 := by simp [Ideal.cmp, h]
  have h2 : Ideal.cmp .une a.1 a.1 = 0#1 := by simp [Ideal.cmp]
  have h3 : Ideal.cmp .oeq a.1 b.1 = 1#1 := by simp [Ideal.cmp, h]
  show (Scalar.select (IntOp.ori (Ideal.cmp .ogt a.1 b.1) (Ideal.cmp .une a.1 a.1)) a.1 b.1,
    Scalar.select (IntOp.ori (IntOp.ori (Ideal.cmp .ogt a.1 b.1) (Ideal.cmp .une a.1 a.1))
      (IntOp.andi (Ideal.cmp .oeq a.1 b.1) (IntOp.cmpi .slt a.2 b.2))) a.2 b.2) = _
  rw [h1, h2, h3]
  generalize IntOp.cmpi .slt a.2 b.2 = z
  have e1 : IntOp.ori 0#1 0#1 = 0#1 := by decide
  have e2 : ∀ z : BitVec 1, IntOp.ori (IntOp.ori 0#1 0#1) (IntOp.andi 1#1 z) = z := by decide
  rw [e2, e1, ValueIdx.select_zero]

/-- The lesser of two indices, read signed. -/
theorem lesser (a b : BitVec 32) :
    (a.toInt < b.toInt ∧ Scalar.select (IntOp.cmpi .slt a b) a b = a) ∨ (b.toInt ≤ a.toInt ∧ Scalar.select (IntOp.cmpi .slt a b) a b = b) := by
  by_cases h : IntOp.cmpi .slt a b = 1#1
  · refine .inl ⟨?_, by rw [h, ValueIdx.select_one]⟩
    simpa [IntOp.cmpi, BitVec.slt, ofBool_eq_one_iff] using h
  · refine .inr ⟨?_, by rw [ValueIdx.eq_zero_of_ne_one h, ValueIdx.select_zero]⟩
    simpa [IntOp.cmpi, BitVec.slt, ofBool_eq_one_iff] using h

theorem step_below {t a b : EReal × BitVec 32} (ha : Below t a) (hb : Below t b) : Below t (step a b) := by
  rcases lt_trichotomy a.1 b.1 with h | h | h
  · rw [step_lt h]; exact hb
  · rw [step_eq h]
    rcases lesser a.2 b.2 with ⟨_, e⟩ | ⟨_, e⟩ <;> rw [e]
    · unfold Below at ha ⊢
      rw [h] at ha
      exact ha
    · exact hb
  · rw [step_gt h]; exact ha

theorem step_target {t x : EReal × BitVec 32} (hx : Below t x) : step x t = t := by
  rcases hx with h | ⟨h, h'⟩
  · exact step_lt h
  · rw [step_eq h]
    rcases lesser x.2 t.2 with ⟨hl, e⟩ | ⟨_, e⟩ <;> rw [e]
    omega

theorem target_step {t x : EReal × BitVec 32} (hx : Below t x) : step t x = t := by
  rcases hx with h | ⟨h, h'⟩
  · exact step_gt h
  · rw [step_eq h.symm]
    rcases lesser t.2 x.2 with ⟨_, e⟩ | ⟨hl, e⟩ <;> rw [e]
    · exact Prod.ext h rfl
    · exact Prod.ext h (BitVec.eq_of_toInt_eq (le_antisymm hl h'))

/-- Folded over pairs none of which displaces `t`, one of them `t`, the step ends at `t`. -/
theorem fold_target (t : EReal × BitVec 32) :
    ∀ (l : List (EReal × BitVec 32)) (a : EReal × BitVec 32), Below t a → (∀ x ∈ l, Below t x) → (a = t ∨ t ∈ l) → l.foldl step a = t
  | [], _, _, _, .inl h => h
  | x :: l, a, ha, hl, h => by
    have hx := hl x (List.mem_cons_self ..)
    refine fold_target t l (step a x) (step_below ha hx) (fun y hy => hl y (List.mem_cons_of_mem _ hy)) ?_
    rcases h with rfl | h
    · exact .inl (target_step hx)
    · rcases List.mem_cons.1 h with rfl | h
      · exact .inl (step_target ha)
      · exact .inr h

/-- Where a row of `n` values first attains its maximum. -/
theorem argmax_row {n : Nat} (h : (⟨2, ![n, 10]⟩ : Shape).ReducesTo [1] ⟨1, ![n]⟩) (x : FVec Ideal ⟨2, ![n, 10]⟩ .f32)
    (y : (⟨2, ![n, 10]⟩ : Shape).Idx → BitVec 32) (ix : S_.Idx → Ideal .f32) (iy : S_.Idx → BitVec 32) (g : Fin n)
    (hy : ∀ q : Fin 10, y (ix2 g q) = BitVec.ofNat 32 q.val) (k : Fin 10) (hi : ix (Shape.Idx.first h_S_) < x (ix2 g k))
    (hx : ∀ q : Fin 10, (x (ix2 g q) : EReal) < x (ix2 g k) ∨ (x (ix2 g q) = x (ix2 g k) ∧ k ≤ q)) :
    (Host.argReduce reducer_argmax_f32_i32 x y ix iy h h_S_ (Shape.Idx.ofFin g)).2 = BitVec.ofNat 32 k.val := by
  rw [Ideal.argReduce_eq_reduce2, Host.reduce2_eq_foldl_fiber]
  have e := fold_target (x (ix2 g k), BitVec.ofNat 32 k.val) (Host.argReduceFiber x y h (Shape.Idx.ofFin g))
    (ix (Shape.Idx.first h_S_), iy (Shape.Idx.first h_S_)) (.inl hi) (fun p hp => ?_) (.inr ?_)
  · exact congrArg Prod.snd e
  · obtain ⟨m, hm, rfl⟩ := List.mem_map.1 hp
    have hd := of_decide_eq_true (List.mem_filter.1 hm).2
    obtain ⟨q, hq⟩ : ∃ q : Fin 10, (⟨2, ![n, 10]⟩ : Shape).rowMajor.symm m = ix2 g q := by
      have e0 : (⟨2, ![n, 10]⟩ : Shape).rowMajor.symm m 0 = g := ((drop_row h _ _).1 hd).trans (Shape.Idx.ofFin_zero g)
      refine ⟨(⟨2, ![n, 10]⟩ : Shape).rowMajor.symm m 1, ?_⟩
      rw [← e0]
      exact ValueIdx.eq_ix2 _
    rw [hq, hy]
    rcases hx q with hlt | ⟨heq, hle⟩
    · exact .inl hlt
    · refine .inr ⟨heq, ?_⟩
      show (BitVec.ofNat 32 k.val).toInt ≤ (BitVec.ofNat 32 q.val).toInt
      rw [toInt_ofNat_small _ (by have := k.isLt; omega), toInt_ofNat_small _ (by have := q.isLt; omega)]
      exact_mod_cast hle
  · refine List.mem_map.2 ⟨(⟨2, ![n, 10]⟩ : Shape).rowMajor (ix2 g k), List.mem_filter.2 ⟨List.mem_finRange _, decide_eq_true ?_⟩, ?_⟩
    · rw [Equiv.symm_apply_apply]
      exact (drop_row h _ _).2 (Shape.Idx.ofFin_zero g).symm
    · rw [Equiv.symm_apply_apply, hy]

end Cert.Proof.Meaning
-- ==== Proof.Weights.lean ====
module
public import proofs.«01_k».proof.Proof.Element
@[expose] public section

/-! # The weights of the elements at the first atom of a segment -/

noncomputable section

namespace Cert.Proof.Meaning

open Cert.ReferenceIdeal Cert.ReferenceIdeal.Gen Cert.Proof.ReferenceRun
open Idealize.ShloMosaic Idealize.ShloMosaic.StableHlo Idealize.ShloMosaic.StableHlo.Predicate Idealize.ShloMosaic.Routing
open Idealize.ShloMosaic.ValueIdx (ix0 ix1 ix2)

/-! ## Finite values -/

/-- A value that is a real number. -/
def Finite (x : EReal) : Prop := ∃ r : ℝ, x = (r : EReal)

theorem finite_between {x a b : EReal} (ha : Finite a) (hb : Finite b) (h1 : a ≤ x) (h2 : x ≤ b) : Finite x := by
  obtain ⟨r, rfl⟩ := ha
  obtain ⟨s, rfl⟩ := hb
  refine ⟨x.toReal, (EReal.coe_toReal ?_ ?_).symm⟩
  · rintro rfl
    exact absurd h2 (not_le_of_gt (EReal.coe_lt_top s))
  · rintro rfl
    exact absurd h1 (not_le_of_gt (EReal.bot_lt_coe r))

theorem finite_sum {ι : Type} [DecidableEq ι] (x : ι → EReal) (s : Finset ι) (h : ∀ k ∈ s, Finite (x k)) : Finite (∑ k ∈ s, x k) := by
  induction s using Finset.induction_on with
  | empty => exact ⟨0, by simp⟩
  | insert a s ha ih =>
    obtain ⟨r, hr⟩ := h a (Finset.mem_insert_self _ _)
    obtain ⟨t, ht⟩ := ih fun k hk => h k (Finset.mem_insert_of_mem hk)
    exact ⟨r + t, by rw [Finset.sum_insert ha, hr, ht, EReal.coe_add]⟩

theorem minus_billion : Ideal.ofBits .f32 0xCE6E6B28#32 = ((-1000000000 : ℝ) : EReal) := by
  simp [Ideal.ofBits, Ideal.ieee, -EReal.coe_mul, -EReal.coe_neg]; norm_num

theorem tiny_pos : ∃ r : ℝ, 0 < r ∧ Ideal.ofBits .f32 0x2B8CBCCC#32 = (r : EReal) := by
  refine ⟨9223372 / 9223372036854775808, by norm_num, ?_⟩
  simp [Ideal.ofBits, Ideal.ieee, -EReal.coe_mul]; norm_num

/-- The exponential of a logit less the row's maximum, at the elements in the bag, zero at the others. -/
theorem masked_exp (m : BitVec 1) (r : ℝ) :
    Ideal.exp (Scalar.select m (1 : EReal) ((-1000000000 : ℝ) : EReal) - (r : EReal)) * ((m.toNat : ℝ) : EReal)
      = if m = 1#1 then ((Real.exp (1 - r) : ℝ) : EReal) else 0 := by
  by_cases h : m = 1#1
  · subst h
    rw [ValueIdx.select_one, if_pos rfl, ← EReal.coe_one, ← EReal.coe_sub, Ideal.exp_coe]
    simp
  · rw [if_neg h, ValueIdx.eq_zero_of_ne_one h]
    simp

/-! ## The reference's weights -/

theorem v64_at (A : Args Ideal) (j : S1600000x10.Idx) :
    v64 A j = Scalar.select (v63 A j) (1 : EReal) ((-1000000000 : ℝ) : EReal) := by
  have e1 : v54 A j = Ideal.ofBits .f32 0x3F800000#32 := rfl
  have e2 : call3_v1 A j = Ideal.ofBits .f32 0xCE6E6B28#32 := rfl
  rw [v64, select_at, e1, e2, Ideal.ofBits_one_f32, minus_billion]

theorem v64_between (A : Args Ideal) (j : S1600000x10.Idx) : ((-1000000000 : ℝ) : EReal) ≤ v64 A j ∧ (v64 A j : EReal) ≤ 1 := by
  have h : ((-1000000000 : ℝ) : EReal) ≤ 1 := by
    rw [← EReal.coe_one, EReal.coe_le_coe_iff]
    norm_num
  rw [v64_at]
  by_cases hm : v63 A j = 1#1
  · rw [hm, ValueIdx.select_one]
    exact ⟨h, le_refl _⟩
  · rw [ValueIdx.eq_zero_of_ne_one hm, ValueIdx.select_zero]
    exact ⟨le_refl _, h⟩

/-- A row's maximum logit is finite. -/
theorem v65_finite (A : Args Ideal) (i : Fin 1600000) : Finite (v65 A (Shape.Idx.ofFin i)) := by
  refine finite_between ⟨_, rfl⟩ (b := 1) ⟨1, by rw [EReal.coe_one]⟩
    (le_rowMax reducesTo_S1600000x10_S1600000_d1 h_S_ (v64 A) (cst_17 A) i _ (0 : Fin 10) (v64_between A _).1)
    (rowMax_le reducesTo_S1600000x10_S1600000_d1 h_S_ (v64 A) (cst_17 A) i _ ?_ fun q => (v64_between A _).2)
  show Ideal.ofBits .f32 0xFF800000#32 ≤ _
  rw [minus_inf]
  exact bot_le

theorem v71_at (A : Args Ideal) (j : S1600000x10.Idx) :
    v71 A j = (Ideal.exp (v64 A j - v67 A j : EReal) * (((v63 A j).toNat : ℝ) : EReal) : EReal) := by
  rw [v71, mulf_at, v69, hostExp_at, v68, subf_at, v70, uitofp_at]

/-- The weights of an atom's elements before they are normalized. -/
theorem v71_row (A : Args Ideal) (i : Fin 1600000) : ∃ e : ℝ, 0 < e ∧ ∀ q : Fin 10,
    v71 A (ix2 i q) = if v63 A (ix2 i q) = 1#1 then (e : EReal) else 0 := by
  obtain ⟨r, hr⟩ := v65_finite A i
  refine ⟨Real.exp (1 - r), Real.exp_pos _, fun q => ?_⟩
  have h67 : v67 A (ix2 i q) = v65 A (Shape.Idx.ofFin i) :=
    bcast_rows bcast_S1600000_S1600000x1_0 bcast_S1600000x1_S1600000x10_0_1 (v65 A) i q
  rw [v71_at, v64_at, h67, hr, masked_exp]

/-- Their sum is finite. -/
theorem v72_finite (A : Args Ideal) (i : Fin 1600000) : Finite (v72 A (Shape.Idx.ofFin i)) := by
  obtain ⟨e, _, he⟩ := v71_row A i
  rw [v72]
  beta_reduce
  rw [ValueIdx.hostReduceAdd_apply]
  have h0 : cst_18 A (Shape.Idx.first h_S_) = Ideal.ofBits .f32 0x00000000#32 := rfl
  rw [Ideal.hostReduceAdd, h0, Ideal.ofBits_zero_f32, zero_add]
  classical
  refine finite_sum _ _ fun k hk => ?_
  have hd := (drop_row reducesTo_S1600000x10_S1600000_d1 k _).1 (Finset.mem_filter.1 hk).2
  have hk0 : k 0 = i := hd.trans (Shape.Idx.ofFin_zero i)
  obtain ⟨q, rfl⟩ : ∃ q : Fin 10, k = ix2 i q := ⟨k 1, by rw [← hk0]; exact ValueIdx.eq_ix2 k⟩
  rw [he q]
  split
  · exact ⟨e, rfl⟩
  · exact ⟨0, by rw [EReal.coe_zero]⟩

/-- The divisor of an atom's weights is a positive real number. -/
theorem v75_row (A : Args Ideal) (i : Fin 1600000) : ∃ d : ℝ, 0 < d ∧ ∀ q : Fin 10, v75 A (ix2 i q) = (d : EReal) := by
  obtain ⟨r, hr⟩ := v72_finite A i
  obtain ⟨t, ht, e⟩ := tiny_pos
  refine ⟨max t r, lt_max_of_lt_left ht, fun q => ?_⟩
  have h75 : v75 A (ix2 i q) = v74 A (ixP i) := bcast_of_col bcast_S1600000x1_S1600000x10_0_1 (v74 A) i q
  have h73 : v73 A (ixP i) = v72 A (Shape.Idx.ofFin i) := bcast_col1 bcast_S1600000_S1600000x1_0 (v72 A) i
  have h4 : ∀ j, call4_v1 A j = Ideal.ofBits .f32 0x2B8CBCCC#32 := fun _ => rfl
  rw [h75, v74, maximumf_at, h73, h4, hr, e]
  exact (EReal.coe_strictMono.monotone.map_max).symm

/-- The weights of an atom's elements: one positive value at those in the bag, zero at the others. -/
theorem v76_row (A : Args Ideal) (i : Fin 1600000) : ∃ p : EReal, 0 < p ∧ ∀ q : Fin 10,
    v76 A (ix2 i q) = if v63 A (ix2 i q) = 1#1 then p else 0 := by
  obtain ⟨e, he, h71⟩ := v71_row A i
  obtain ⟨d, hd, h75⟩ := v75_row A i
  have hd0 : ((d : ℝ) : EReal) ≠ 0 := by exact_mod_cast hd.ne'
  refine ⟨((e * (1 / d) : ℝ) : EReal), ?_, fun q => ?_⟩
  · exact_mod_cast mul_pos he (one_div_pos.2 hd)
  · rw [v76, hostDivf_at, h71, h75]
    split
    · rw [Ideal.div_coe hd.ne', EReal.coe_mul]
    · exact Ideal.zero_div hd0

section

variable {A : Args Ideal} (S : Segments A.arg1 A.arg2)
include S

/-- The weights of a segment's elements at its first atom. -/
theorem v85_row (g : Fin 100000) : ∃ p : EReal, 0 < p ∧ ∀ q : Fin 10,
    v85 A (ix2 g q) = if Pos (A.arg3 (ix2 g q)) then p else 0 := by
  have hf := S.first_lt g
  obtain ⟨i, hi⟩ : ∃ i : Fin 1600000, (A.arg2 (Shape.Idx.ofFin ⟨g.val, by omega⟩)).toNat = i.val := ⟨⟨_, hf⟩, rfl⟩
  have hb := S.first_in g i hi
  obtain ⟨p, hp, h⟩ := v76_row A i
  refine ⟨p, hp, fun q => ?_⟩
  have h78 : v78 A (Shape.Idx.ofFin g) = A.arg2 (Shape.Idx.ofFin ⟨g.val, by omega⟩) := by
    have e : v77 A (Shape.Idx.ofFin g) = A.arg2 (Shape.Idx.ofFin ⟨g.val, by omega⟩) := head_at slices_S100001_S100000_0 A.arg2 g (by omega)
    show v53 A (Shape.Idx.ofFin g) + v77 A (Shape.Idx.ofFin g) = _
    rw [focus_zero S g, e]
    exact BitVec.zero_add _
  have h83 : v83 A (Shape.Idx.ofFin g) = v78 A (Shape.Idx.ofFin g) :=
    wrap_apply (v78 A) (v79 A) (v81 A) _ rfl (by rw [h78]; omega)
  have h85 : v85 A (ix2 g q) = v76 A (ix2 i q) :=
    row_at (N := 1600000) (n := 100000) (B := 10) gather_S1600000x10_S100000x1_S100000x10_1_0_n_n_0_1_110 rfl rfl rfl rfl rfl (v76 A)
      bcast_S100000_S100000x1_0 (v83 A) g q i (by rw [h83, h78]; exact hi) (by decide)
  have h61 : v61 A (Shape.Idx.ofFin i) = A.arg1 (Shape.Idx.ofFin i) :=
    wrap_apply A.arg1 (v57 A) (v59 A) _ rfl (by have := S.seg_lt i; omega)
  have h63 : v63 A (ix2 i q) = v56 A (ix2 g q) :=
    row_at (N := 100000) (n := 1600000) (B := 10) gather_S100000x10_S1600000x1_S1600000x10_1_0_n_n_0_1_110 rfl rfl rfl rfl rfl (v56 A)
      bcast_S1600000_S1600000x1_0 (v61 A) i q g (by rw [h61]; exact hb) (by decide)
  rw [h85, h, h63]
  rfl

/-- The element of a segment is the first in its bag, 0 when the bag is empty. -/
theorem element_eq (g : Fin 100000) : v86 A (Shape.Idx.ofFin g) = KernelIdealRun.elemAt fun q => A.arg3 (ix2 g q) := by
  obtain ⟨p, hp, h⟩ := v85_row S g
  have hy : ∀ q : Fin 10, call5_v0 A (ix2 g q) = BitVec.ofNat 32 q.val := fun q => rfl
  have hi : call5_cst A (Shape.Idx.first h_S_) = (⊥ : EReal) := minus_inf
  have key : ∀ k : Fin 10, (∀ q : Fin 10, (v85 A (ix2 g q) : EReal) < v85 A (ix2 g k) ∨ (v85 A (ix2 g q) = v85 A (ix2 g k) ∧ k ≤ q)) →
      v86 A (Shape.Idx.ofFin g) = BitVec.ofNat 32 k.val := fun k hk =>
    argmax_row reducesTo_S100000x10_S100000_d1 (v85 A) (call5_v0 A) (call5_cst A) (call5_c A) g hy k
      (by rw [hi, h k]; split; exacts [lt_trans EReal.bot_lt_zero hp, EReal.bot_lt_zero]) hk
  rcases elemAt_spec (fun q => A.arg3 (ix2 g q)) with ⟨k, h1, h2, h3⟩ | ⟨h1, h2⟩
  · rw [h3]
    refine key k fun q => ?_
    rw [h k, if_pos h1, h q]
    by_cases hq : Pos (A.arg3 (ix2 g q))
    · rw [if_pos hq]
      exact .inr ⟨rfl, not_lt.1 fun hlt => h2 q hlt hq⟩
    · rw [if_neg hq]
      exact .inl hp
  · rw [h2]
    refine key 0 fun q => ?_
    rw [h 0, if_neg (h1 0), h q, if_neg (h1 q)]
    exact .inr ⟨rfl, Fin.zero_le _⟩

end

end Cert.Proof.Meaning
-- ==== Proof.Floats.lean ====
module
public import proofs.«01_k».proof.Proof.Weights
@[expose] public section

/-! # The real functions of the two programs

The kernel's hyperbolic tangent through one exponential, and its logarithm of a clamped exponential as a clamp. -/

noncomputable section

namespace Cert.Proof.Meaning

open Idealize.ShloMosaic

/-! ## Constants -/

theorem word_two : Ideal.ofBits .f32 0x40000000#32 = ((2 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_eps : Ideal.ofBits .f32 0x358637BD#32 = ((8796093 / 8796093022208 : ℝ) : EReal) := by
  simp [Ideal.ofBits, Ideal.ieee, -EReal.coe_mul]; norm_num

theorem word_tau : Ideal.ofBits .f32 0x40C90FDB#32 = ((13176795 / 2097152 : ℝ) : EReal) := by
  simp [Ideal.ofBits, Ideal.ieee, -EReal.coe_mul]; norm_num

theorem word_scale : Ideal.ofBits .f32 0x3ED9999A#32 = ((14260634 / 33554432 : ℝ) : EReal) := by
  simp [Ideal.ofBits, Ideal.ieee, -EReal.coe_mul]; norm_num

theorem word_shift : Ideal.ofBits .f32 0x3FB00000#32 = ((11 / 8 : ℝ) : EReal) := by
  simp [Ideal.ofBits, Ideal.ieee, -EReal.coe_mul]; norm_num

/-! ## The hyperbolic tangent -/

theorem real_tanh (r : ℝ) : 1 - 2 * (1 / (Real.exp (r * 2) + 1)) = Real.tanh r := by
  have h : Real.exp r ≠ 0 := (Real.exp_pos r).ne'
  have h1 : Real.exp r * Real.exp r + 1 ≠ 0 := by positivity
  rw [Real.tanh_eq_sinh_div_cosh, Real.sinh_eq, Real.cosh_eq, Real.exp_neg, mul_two, Real.exp_add]
  field_simp
  ring

theorem tanh_eq (x : EReal) : (1 : EReal) - Ideal.div ((2 : ℝ) : EReal) (Ideal.exp (x * ((2 : ℝ) : EReal)) + 1) = Ideal.tanh x := by
  induction x using EReal.rec with
  | bot =>
    rw [EReal.bot_mul_coe_of_pos (by norm_num), Ideal.exp_bot, Ideal.tanh_bot, zero_add, ← EReal.coe_one, Ideal.div_coe one_ne_zero,
      ← EReal.coe_mul, ← EReal.coe_sub, ← EReal.coe_neg]
    norm_num
  | top =>
    rw [EReal.top_mul_coe_of_pos (by norm_num), Ideal.exp_top, Ideal.tanh_top, ← EReal.coe_one, EReal.top_add_coe, Ideal.div,
      if_neg EReal.top_ne_zero, EReal.inv_top, mul_zero, sub_zero]
  | coe r =>
    have h : Real.exp (r * 2) + 1 ≠ 0 := by positivity
    rw [← EReal.coe_mul, Ideal.exp_coe, Ideal.tanh_coe, ← EReal.coe_one, ← EReal.coe_add, Ideal.div_coe h, ← EReal.coe_mul, ← EReal.coe_sub,
      real_tanh]

theorem tanh_finite (x : EReal) : Finite (Ideal.tanh x) := by
  induction x using EReal.rec with
  | bot => exact ⟨-1, by rw [Ideal.tanh_bot, EReal.coe_neg, EReal.coe_one]⟩
  | top => exact ⟨1, by rw [Ideal.tanh_top, EReal.coe_one]⟩
  | coe r => exact ⟨_, Ideal.tanh_coe r⟩

/-- The reference's distance. -/
def dist (x : EReal) : EReal := Ideal.tanh x * Ideal.ofBits .f32 0x3ED9999A#32 + Ideal.ofBits .f32 0x3FB00000#32

theorem dist_sub_self (x : EReal) : dist x - dist x = 0 := by
  obtain ⟨r, hr⟩ := tanh_finite x
  rw [dist, hr, word_scale, word_shift, ← EReal.coe_mul, ← EReal.coe_add, ← EReal.coe_sub, sub_self, EReal.coe_zero]

/-! ## The logarithm -/

theorem log_clamp (x : EReal) :
    Ideal.log (max (Ideal.exp x) ((8796093 / 8796093022208 : ℝ) : EReal)) = max x ((Real.log (8796093 / 8796093022208) : ℝ) : EReal) := by
  induction x using EReal.rec with
  | bot =>
    rw [Ideal.exp_bot, max_eq_right (by rw [← EReal.coe_zero, EReal.coe_le_coe_iff]; norm_num), max_eq_right bot_le, Ideal.log_coe,
      if_neg (by norm_num)]
  | top => rw [Ideal.exp_top, max_eq_left le_top, max_eq_left le_top, Ideal.log_top]
  | coe r =>
    rw [Ideal.exp_coe]
    rcases le_total (Real.exp r) (8796093 / 8796093022208) with h | h
    · rw [max_eq_right (EReal.coe_le_coe_iff.2 h), Ideal.log_coe, if_neg (by norm_num),
        max_eq_right (EReal.coe_le_coe_iff.2 ((Real.le_log_iff_exp_le (by norm_num)).2 h))]
    · rw [max_eq_left (EReal.coe_le_coe_iff.2 h), Ideal.log_coe, if_neg (not_le.2 (Real.exp_pos r)), Real.log_exp,
        max_eq_left (EReal.coe_le_coe_iff.2 ((Real.log_le_iff_le_exp (by norm_num)).2 h))]

/-- Twice the square of a positive number is not zero. -/
theorem two_sq_ne_zero {x : EReal} (h : 0 < x) : ((2 : ℝ) : EReal) * (x * x) ≠ 0 :=
  mul_ne_zero (by exact_mod_cast (two_ne_zero : (2 : ℝ) ≠ 0)) (mul_ne_zero h.ne' h.ne')

/-- The reference's log-probability, at a distance `d` measured from itself. -/
theorem logp_eq (d x : EReal) (hd : d - d = 0) :
    Ideal.div (-((d - d) * (d - d))) (((2 : ℝ) : EReal) * (max (Ideal.exp x) ((8796093 / 8796093022208 : ℝ) : EReal)
        * max (Ideal.exp x) ((8796093 / 8796093022208 : ℝ) : EReal)))
      - Ideal.log (max (Ideal.exp x) ((8796093 / 8796093022208 : ℝ) : EReal))
      - ((1 / 2 : ℝ) : EReal) * Ideal.log ((13176795 / 2097152 : ℝ) : EReal)
    = 0 - max x ((Real.log (8796093 / 8796093022208) : ℝ) : EReal) - (((1 / 2) * (Real.log (13176795 / 2097152)) : ℝ) : EReal) := by
  have hp : 0 < max (Ideal.exp x) ((8796093 / 8796093022208 : ℝ) : EReal) :=
    lt_max_of_lt_right (by exact_mod_cast (by norm_num : (0 : ℝ) < 8796093 / 8796093022208))
  rw [hd, mul_zero, neg_zero, Ideal.zero_div (two_sq_ne_zero hp), log_clamp, Ideal.log_coe, if_neg (by norm_num), EReal.coe_mul]

end Cert.Proof.Meaning
-- ==== Proof.Outputs.lean ====
module
public import proofs.«01_k».proof.Proof.Floats
public import proofs.«01_k».proof.Proof.KernelIdealRun
public import Idealize.ShloMosaic.Lib.Pipeline.Value
@[expose] public section

/-! # The two programs' results are equal

Each of the five results of the kernel, read at an index, is the reference's. -/

noncomputable section

namespace Cert.Proof.Meaning

open Cert.ReferenceIdeal Cert.ReferenceIdeal.Gen Cert.Proof.ReferenceRun
open Idealize.ShloMosaic Idealize.ShloMosaic.StableHlo Idealize.ShloMosaic.StableHlo.Predicate
open Idealize.ShloMosaic.ValueIdx (ix0 ix1 ix2 ix4)
open Cert.Proof.KernelIdealRun (ix co co_ix bagOf prmOf gElem gFocus gDist gLogp gOrient)

/-! ## Shapes of one element -/

theorem one_index (x y : (⟨1, ![1]⟩ : Shape).Idx) : x = y := funext fun a => by
  obtain rfl : a = 0 := Subsingleton.elim _ _
  exact Subsingleton.elim (α := Fin 1) _ _

theorem one_one_index (x y : (⟨2, ![1, 1]⟩ : Shape).Idx) : x = y := funext fun a => match a with
  | ⟨0, _⟩ => Subsingleton.elim (α := Fin 1) _ _
  | ⟨1, _⟩ => Subsingleton.elim (α := Fin 1) _ _

/-- The one index of each. -/
abbrev o1 : (⟨1, ![1]⟩ : Shape).Idx := ix1 0
abbrev o2 : (⟨2, ![1, 1]⟩ : Shape).Idx := ix2 0 0

/-! ## The kernel's arguments -/

theorem bag_at (a3 : S100000x10.Idx → BitVec 32) (g : Fin 100000) (q : Fin 10) (h : 10 * g.val + q.val < 1000000) :
    bagOf a3 (ix ⟨10 * g.val + q.val, h⟩) = a3 (ix2 g q) := by
  unfold bagOf
  refine shapeCast_apply _ _ _ _ ?_
  rw [Shape.rowMajor_val_two, Shape.rowMajor_val_one]
  show g.val * 10 + q.val = 10 * g.val + q.val
  omega

section

variable (a4 : S1x1.Idx → Ideal .f32) (a5 : S1.Idx → Ideal .f32) (a6 : S1x3.Idx → Ideal .f32)

variable {α : Type} (x1 x2 : Cert.KernelIdeal.S16.Idx → α) (x3 : Cert.KernelIdeal.S48.Idx → α)
  (h : Shape.Concatenates [Cert.KernelIdeal.S16, Cert.KernelIdeal.S16, Cert.KernelIdeal.S48] Cert.KernelIdeal.S80 0)

theorem piece_one (k : Fin 80) (hk : k.val < 16) :
    concatenate Cert.KernelIdeal.S80 0 [⟨Cert.KernelIdeal.S16, x1⟩, ⟨Cert.KernelIdeal.S16, x2⟩, ⟨Cert.KernelIdeal.S48, x3⟩] h (ix k)
      = x1 (ix ⟨k.val, hk⟩) :=
  concatenate_apply_piece 0 [⟨Cert.KernelIdeal.S16, x1⟩, ⟨Cert.KernelIdeal.S16, x2⟩, ⟨Cert.KernelIdeal.S48, x3⟩] h (ix k) 0 (by show 0 < 3; decide) Cert.KernelIdeal.S16 x1 rfl rfl 0 rfl (ix (n := 16) ⟨k.val, hk⟩)
    (fun b hb => absurd (Subsingleton.elim (α := Fin 1) _ _) hb) (Nat.zero_add _)

theorem piece_two (k : Fin 80) (hk : 16 ≤ k.val) (hk' : k.val - 16 < 16) :
    concatenate Cert.KernelIdeal.S80 0 [⟨Cert.KernelIdeal.S16, x1⟩, ⟨Cert.KernelIdeal.S16, x2⟩, ⟨Cert.KernelIdeal.S48, x3⟩] h (ix k)
      = x2 (ix ⟨k.val - 16, hk'⟩) :=
  concatenate_apply_piece 0 [⟨Cert.KernelIdeal.S16, x1⟩, ⟨Cert.KernelIdeal.S16, x2⟩, ⟨Cert.KernelIdeal.S48, x3⟩] h (ix k) 1 (by show 1 < 3; decide) Cert.KernelIdeal.S16 x2 rfl rfl 16 rfl (ix (n := 16) ⟨k.val - 16, hk'⟩)
    (fun b hb => absurd (Subsingleton.elim (α := Fin 1) _ _) hb) (Nat.add_sub_cancel' hk)

theorem piece_three (k : Fin 80) (hk : 32 ≤ k.val) (hk' : k.val - 32 < 48) :
    concatenate Cert.KernelIdeal.S80 0 [⟨Cert.KernelIdeal.S16, x1⟩, ⟨Cert.KernelIdeal.S16, x2⟩, ⟨Cert.KernelIdeal.S48, x3⟩] h (ix k)
      = x3 (ix ⟨k.val - 32, hk'⟩) :=
  concatenate_apply_piece 0 [⟨Cert.KernelIdeal.S16, x1⟩, ⟨Cert.KernelIdeal.S16, x2⟩, ⟨Cert.KernelIdeal.S48, x3⟩] h (ix k) 2 (by show 2 < 3; decide) Cert.KernelIdeal.S48 x3 rfl rfl 32 rfl (ix (n := 48) ⟨k.val - 32, hk'⟩)
    (fun b hb => absurd (Subsingleton.elim (α := Fin 1) _ _) hb) (Nat.add_sub_cancel' hk)

theorem prm_dist (k : Fin 80) (h : k.val < 16) : prmOf a4 a5 a6 (ix k) = a4 o2 := by
  unfold prmOf
  rw [piece_one _ _ _ _ k h]
  unfold broadcastInDim shapeCast
  exact congrArg a4 (one_one_index _ _)

theorem prm_log (k : Fin 80) (h : 16 ≤ k.val) (h' : k.val < 32) : prmOf a4 a5 a6 (ix k) = a5 o1 := by
  unfold prmOf
  rw [piece_two _ _ _ _ k h (by omega)]
  unfold broadcastInDim
  exact congrArg a5 (one_index _ _)

theorem prm_orient (k : Fin 80) (h : 32 ≤ k.val) (q : Fin 3) (hq : (k.val - 32) % 3 = q.val) : prmOf a4 a5 a6 (ix k) = a6 (ix2 0 q) := by
  have hk := k.isLt
  unfold prmOf
  rw [piece_three _ _ _ _ k h (by omega)]
  refine (shapeCast_apply _ _ _ (ix2 (n0 := 16) (n1 := 3) ⟨(k.val - 32) / 3, by omega⟩ q) ?_).trans ?_
  · rw [Shape.rowMajor_val_two, Shape.rowMajor_val_one]
    show (k.val - 32) / 3 * 3 + q.val = k.val - 32
    omega
  refine (broadcastInDim_apply _ _ _ _ (ix2 (n0 := 1) (n1 := 3) 0 q) ?_).trans ?_
  · intro a
    match a with
    | ⟨0, _⟩ => rfl
    | ⟨1, _⟩ => rfl
  refine (shapeCast_apply _ _ _ (ix1 (n := 3) q) ?_).trans (shapeCast_apply _ _ _ (ix2 (n0 := 1) (n1 := 3) 0 q) ?_)
  · rw [Shape.rowMajor_val_two, Shape.rowMajor_val_one]
    show q.val = 0 * 3 + q.val
    omega
  · rw [Shape.rowMajor_val_two, Shape.rowMajor_val_one]
    show 0 * 3 + q.val = q.val
    omega

/-! ## The kernel's results -/

theorem pay15_at (x : FVec Ideal Cert.KernelIdeal.S16 .f32) (i : Cert.KernelIdeal.S16.Idx) : Cert.KernelIdeal.Gen.k0_pay15 (F := Ideal) x i = dist (x i) := by
  have e : Cert.KernelIdeal.Gen.k0_pay15 (F := Ideal) x i = ((Ideal.ofBits .f32 0x3F800000#32 - Ideal.div (Ideal.ofBits .f32 0x40000000#32)
      (Ideal.exp (x i * Ideal.ofBits .f32 0x40000000#32) + Ideal.ofBits .f32 0x3F800000#32)) * Ideal.ofBits .f32 0x3ED9999A#32
      + Ideal.ofBits .f32 0x3FB00000#32 : EReal) := rfl
  rw [e, Ideal.ofBits_one_f32, word_two, tanh_eq, dist]

theorem named_eps : (Named.named (F := Ideal) Cert.KernelIdeal.κ "log_eps" 0xC15D0C55#32 : Ideal .f32)
    = ((Real.log (8796093 / 8796093022208) : ℝ) : EReal) := rfl

theorem named_half : (Named.named (F := Ideal) Cert.KernelIdeal.κ "half_log_two_pi" 0x3F6B3F8E#32 : Ideal .f32)
    = (((1 / 2) * (Real.log (13176795 / 2097152)) : ℝ) : EReal) := rfl

/-- The kernel's log-probability. -/
def logp (x : EReal) : EReal :=
  0 - max x ((Real.log (8796093 / 8796093022208) : ℝ) : EReal) - (((1 / 2) * (Real.log (13176795 / 2097152)) : ℝ) : EReal)

theorem pay16_at (x : FVec Ideal Cert.KernelIdeal.S16 .f32) (i : Cert.KernelIdeal.S16.Idx) : Cert.KernelIdeal.Gen.k0_pay16 (F := Ideal) x i = logp (x i) := by
  have e : Cert.KernelIdeal.Gen.k0_pay16 (F := Ideal) x i = ((Ideal.ofBits .f32 0x00000000#32
      - max (x i) (Named.named (F := Ideal) Cert.KernelIdeal.κ "log_eps" 0xC15D0C55#32 : Ideal .f32))
      - (Named.named (F := Ideal) Cert.KernelIdeal.κ "half_log_two_pi" 0x3F6B3F8E#32 : Ideal .f32) : EReal) := rfl
  rw [e, Ideal.ofBits_zero_f32, named_eps, named_half, logp]

theorem gDist_at (x : S100000.Idx) : gDist (prmOf a4 a5 a6) x = dist (a4 o2) := by
  unfold gDist
  rw [pay15_at, prm_dist]
  exact (co _).isLt

theorem gLogp_at (x : S100000.Idx) : gLogp (prmOf a4 a5 a6) x = logp (a5 o1) := by
  unfold gLogp
  rw [pay16_at, prm_log]
  · exact Nat.le_add_right _ _
  · exact Nat.add_lt_add_left (co _).isLt 16

theorem orient_at (h : (⟨1, ![300000]⟩ : Shape).ShapeCasts ⟨2, ![100000, 3]⟩) (g : Fin 100000) (q : Fin 3) :
    shapeCast ⟨2, ![100000, 3]⟩ (gOrient (prmOf a4 a5 a6)) h (ix2 g q) = a6 (ix2 0 q) := by
  refine (shapeCast_apply _ _ _ (ix (n := 300000) ⟨3 * g.val + q.val, by omega⟩) ?_).trans ?_
  · rw [Shape.rowMajor_val_two, Shape.rowMajor_val_one]
    show 3 * g.val + q.val = g.val * 3 + q.val
    omega
  · unfold gOrient
    refine prm_orient a4 a5 a6 _ (Nat.le_add_right _ _) q ?_
    show (32 + (3 * g.val + q.val) % 48 - 32) % 3 = q.val
    omega

end

/-! ## The reference's -/

section

variable (A : Args Ideal)

theorem v92_at (j : S100000x1.Idx) : v92 A j = dist (A.arg4 o2) := by
  have h87 : v87 A j = A.arg4 o2 := by
    rw [v87]
    unfold broadcastInDim
    exact congrArg A.arg4 (one_one_index _ _)
  have h89 : v89 A j = Ideal.ofBits .f32 0x3ED9999A#32 := rfl
  have h91 : v91 A j = Ideal.ofBits .f32 0x3FB00000#32 := rfl
  rw [v92, addf_at, v90, mulf_at, v88, hostTanh_at, h87, h89, h91, dist]

theorem v95_at (j : S1.Idx) : v95 A j = max (Ideal.exp (A.arg5 o1)) ((8796093 / 8796093022208 : ℝ) : EReal) := by
  have h94 : v94 A j = Ideal.ofBits .f32 0x358637BD#32 := rfl
  rw [v95, maximumf_at, v93, hostExp_at, h94, word_eps, one_index j o1]

theorem v106_at (j : S100000x1.Idx) : v106 A j = v104 A o1 := by
  rw [v106, v105]
  unfold broadcastInDim
  exact congrArg (v104 A) (one_index _ _)

theorem v110_at (j : S100000x1.Idx) : v110 A j = v108 A o1 := by
  rw [v110, v109]
  unfold broadcastInDim
  exact congrArg (v108 A) (one_index _ _)

theorem v115_at (j : S100000x1.Idx) : v115 A j = (((1 / 2 : ℝ) : EReal) * Ideal.log ((13176795 / 2097152 : ℝ) : EReal) : EReal) := by
  have e : v115 A j = v113 A ix0 := by
    rw [v115, ValueIdx.broadcastInDim_scalar_apply, v114, id]
  have h1 : cst_27 A ix0 = Ideal.ofBits .f32 0x3F000000#32 := rfl
  have h2 : cst_26 A ix0 = Ideal.ofBits .f32 0x40C90FDB#32 := rfl
  rw [e, v113, mulf_at, v112, hostLog_at, h1, h2, word_half, word_tau]

theorem v116_at (j : S100000x1.Idx) : v116 A j = logp (A.arg5 o1) := by
  have h103 : v103 A o1 = Ideal.ofBits .f32 0x40000000#32 := rfl
  rw [v116, subf_at, v111, subf_at, v107, hostDivf_at, v101, hostNegf_at, v100, mulf_at, v99, subf_at, v106_at, v104, mulf_at, v102, mulf_at,
    v110_at, v108, hostLog_at, v115_at, v95_at, v92_at, h103, word_two]
  exact logp_eq _ _ (dist_sub_self _)

theorem v118_at (j : S100000x1.Idx) : v118 A j = logp (A.arg5 o1) := by
  have h117 : ∀ i, v117 A i = logp (A.arg5 o1) := fun i => by
    rw [v117]
    unfold broadcastInDim
    exact v116_at A _
  have h0 : cst_28 A (Shape.Idx.first h_S_) = Ideal.ofBits .f32 0x00000000#32 := rfl
  rw [v118]
  beta_reduce
  rw [ValueIdx.hostReduceAdd_apply, Ideal.hostReduceAdd_single reducesTo_S100000x1x1_S100000x1_d2 (by decide), h0, Ideal.ofBits_zero_f32, zero_add]
  rw [Finset.sum_congr rfl fun k _ => h117 _, Finset.sum_const]
  show (Finset.univ : Finset (Fin 1)).card • _ = _
  rw [Finset.card_univ, Fintype.card_fin, one_smul]

theorem v98_at (g : Fin 100000) (q : Fin 3) : v98 A (ix2 g q) = A.arg6 (ix2 0 q) := by
  rw [v98]
  refine (shapeCast_apply _ _ _ (ix4 (n0 := 100000) (n1 := 1) (n2 := 1) (n3 := 3) g 0 0 q) ?_).trans ?_
  · rw [Shape.rowMajor_val_two, Shape.rowMajor_val_four]
    show ((g.val * 1 + 0) * 1 + 0) * 3 + q.val = g.val * 3 + q.val
    omega
  rw [v97]
  refine (broadcastInDim_apply _ _ _ _ (ix4 (n0 := 1) (n1 := 1) (n2 := 1) (n3 := 3) 0 0 0 q) ?_).trans ?_
  · intro a
    match a with
    | ⟨0, _⟩ => rfl
    | ⟨1, _⟩ => rfl
    | ⟨2, _⟩ => rfl
    | ⟨3, _⟩ => rfl
  rw [v96]
  refine shapeCast_apply _ _ _ (ix2 (n0 := 1) (n1 := 3) 0 q) ?_
  rw [Shape.rowMajor_val_two, Shape.rowMajor_val_four]
  show 0 * 3 + q.val = ((0 * 1 + 0) * 1 + 0) * 3 + q.val
  omega

end

/-! ## The five results -/

section

variable (A : Args Ideal)

theorem focus_same (S : Segments A.arg1 A.arg2) : v53 A = (gFocus : S100000.Idx → BitVec 32) := funext fun x => by
  rw [Shape.Idx.eq_ofFin x]
  exact focus_zero S _

theorem element_same (S : Segments A.arg1 A.arg2) : v86 A = (gElem (bagOf A.arg3) : S100000.Idx → BitVec 32) := funext fun x => by
  obtain ⟨g, rfl⟩ : ∃ g : Fin 100000, x = Shape.Idx.ofFin g := ⟨_, Shape.Idx.eq_ofFin x⟩
  rw [element_eq S g]
  unfold gElem
  refine congrArg _ (funext fun q => ?_)
  have h := bag_at A.arg3 g q (by omega)
  exact h.symm

theorem dist_same (h : (⟨1, ![100000]⟩ : Shape).ShapeCasts ⟨2, ![100000, 1]⟩) :
    v92 A = shapeCast ⟨2, ![100000, 1]⟩ (gDist (prmOf A.arg4 A.arg5 A.arg6)) h := funext fun j => by
  rw [v92_at]
  unfold shapeCast
  exact (gDist_at A.arg4 A.arg5 A.arg6 _).symm

theorem orient_same (h : (⟨1, ![300000]⟩ : Shape).ShapeCasts ⟨2, ![100000, 3]⟩) :
    v98 A = shapeCast ⟨2, ![100000, 3]⟩ (gOrient (prmOf A.arg4 A.arg5 A.arg6)) h := funext fun j => by
  obtain ⟨g, q, rfl⟩ : ∃ (g : Fin 100000) (q : Fin 3), j = ix2 g q := ⟨_, _, ValueIdx.eq_ix2 j⟩
  rw [v98_at]
  exact (orient_at A.arg4 A.arg5 A.arg6 h g q).symm

theorem logp_same (h : (⟨1, ![100000]⟩ : Shape).ShapeCasts ⟨2, ![100000, 1]⟩) :
    v118 A = shapeCast ⟨2, ![100000, 1]⟩ (gLogp (prmOf A.arg4 A.arg5 A.arg6)) h := funext fun j => by
  rw [v118_at]
  unfold shapeCast
  exact (gLogp_at A.arg4 A.arg5 A.arg6 _).symm

end

end Cert.Proof.Meaning
-- ==== Proof.Results.lean ====
module
public import proofs.«01_k».proof.Proof.Outputs
@[expose] public section

/-! # Equal results of the kernel and the reference -/

noncomputable section

namespace Cert.Proof

open Idealize.ShloMosaic Idealize.SL.Sem
open Cert.Proof.ReferenceRun (Args args)
open Cert.Proof.KernelIdealRun (bagAt prmAt gElem gFocus gDist gLogp gOrient)
open Cert.KernelIdeal Cert.KernelIdeal.Gen

/-- The reference's arguments, read in the kernel's memory. -/
def shared (m : (ℓ : Loc nD τ sig) → Buf (Elt Ideal) ℓ) (c : Dev nD) : Args Ideal where
  arg1 := m ((c.tc : Thread nD τ).loc main_arg1)
  arg2 := m ((c.tc : Thread nD τ).loc main_arg2)
  arg3 := m ((c.tc : Thread nD τ).loc main_arg3)
  arg4 := m ((c.tc : Thread nD τ).loc main_arg4)
  arg5 := m ((c.tc : Thread nD τ).loc main_arg5)
  arg6 := m ((c.tc : Thread nD τ).loc main_arg6)

theorem same_args {A B : Args Ideal} (h1 : A.arg1 = B.arg1) (h2 : A.arg2 = B.arg2) (h3 : A.arg3 = B.arg3) (h4 : A.arg4 = B.arg4)
    (h5 : A.arg5 = B.arg5) (h6 : A.arg6 = B.arg6) : A = B := by
  cases A
  cases B
  cases h1
  cases h2
  cases h3
  cases h4
  cases h5
  cases h6
  rfl

theorem algebraic : Cert.algebraic_KernelIdeal_ReferenceIdeal_pre_segments (hKernelIdeal := Cert.KernelIdeal.Gen.facts)
    (hReferenceIdeal := Cert.ReferenceIdeal.Gen.facts) (hPre_segments := Cert.Pre_segments.Gen.facts) := by
  intro m g m' g' hpre hargs
  have hA : ∀ c : Dev nD, args m' c = shared m c := fun c => by
    obtain ⟨_, h1, h2, h3, h4, h5, h6⟩ := hargs c
    exact same_args h1 h2 h3 h4 h5 h6
  have hS : ∀ c : Dev nD, Meaning.Segments (shared m c).arg1 (shared m c).arg2 := fun c => Meaning.segments_of_pre _ _ _ _ _ _ _ (hpre c)
  refine ⟨fun c => gFocus, fun c => gElem (bagAt m c), fun c => shapeCast S100000x1 (gDist (prmAt m c)) shapeCasts_S100000_S100000x1,
    fun c => shapeCast S100000x3 (gOrient (prmAt m c)) shapeCasts_S300000_S100000x3,
    fun c => shapeCast S100000x1 (gLogp (prmAt m c)) shapeCasts_S100000_S100000x1, ?_, ?_⟩
  · exact (θ_run (Cert.KernelIdeal.defs (F := Ideal)) _ _).mono (fun _ h => h.1) (KernelIdealRun.run m g)
  · refine (θ_run (Cert.ReferenceIdeal.defs (F := Ideal)) _ _).mono (fun r h c => ?_) (ReferenceRun.run m' g')
    obtain ⟨h0, h1, h2, h3, h4, h5⟩ := h c
    rw [hA c] at h0 h1 h2 h3 h4
    exact ⟨h0.trans (Meaning.focus_same (shared m c) (hS c)), h1.trans (Meaning.element_same (shared m c) (hS c)),
      h2.trans (Meaning.dist_same (shared m c) _), h3.trans (Meaning.orient_same (shared m c) _), h4.trans (Meaning.logp_same (shared m c) _), h5⟩

end Cert.Proof
-- ==== Proof.lean ====
module
public import proofs.«01_k».proof.Defs
public import proofs.«01_k».proof.Proof.Frames
public import proofs.«01_k».proof.Proof.Results
@[expose] public section

/-! # The certificate's claim

The frames of the three programs, the two named constants, and equal results of the kernel and the reference. -/

noncomputable section

namespace Cert.Proof

theorem claim : Cert.Claim :=
  ⟨Cert.Kernel.Gen.facts, Cert.KernelIdeal.Gen.facts, Cert.ReferenceIdeal.Gen.facts, Cert.Pre_segments.Gen.facts,
    frame_kernel, frame_ideal, frame_ideal_pre, frame_reference, frame_reference_pre, constants, algebraic⟩

end Cert.Proof
